-- ==== Defs.lean ====
def Pre_Quantise (m : (ℓ : Loc Cert.Quantise.nD Cert.Quantise.τ Cert.Quantise.sig) → Buf (Elt Bits) ℓ) : Prop :=
  True

def Pre_QuantiseRef (m : (ℓ : Loc Cert.QuantiseRef.nD Cert.QuantiseRef.τ Cert.QuantiseRef.sig) → Buf (Elt Bits) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_labels_in_vocab [hPre_labels_in_vocab : Cert.Pre_labels_in_vocab.Facts] (m : (ℓ : Loc Cert.LossIdeal.nD Cert.LossIdeal.τ Cert.LossIdeal.sig) → Buf (Elt Ideal) ℓ) : Prop :=
  ∀ c : Dev Cert.LossIdeal.nD,
    (Cert.Pre_labels_in_vocab.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_labels_in_vocab [hPre_labels_in_vocab : Cert.Pre_labels_in_vocab.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_labels_in_vocab.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0))
      ∧ r.2.sem = fun _ => 0)

def quiescent_QuantiseRef [hQuantiseRef : Cert.QuantiseRef.Facts] : Prop :=
  ∀ (m : (ℓ : Loc Cert.QuantiseRef.nD Cert.QuantiseRef.τ Cert.QuantiseRef.sig) → Buf (Elt Bits) ℓ) (g : Dev Cert.QuantiseRef.nD → PrngReg), Pre_QuantiseRef m →
    θ_run (Cert.QuantiseRef.defs (F := Bits)) (onTc (τ := Cert.QuantiseRef.τ) (Cert.QuantiseRef.main (F := Bits))) ⟨m, fun _ => 0, g⟩ (fun r => (∀ c : Dev Cert.QuantiseRef.nD,
      r.2.mem ((c.tc : Thread Cert.QuantiseRef.nD Cert.QuantiseRef.τ).loc Cert.QuantiseRef.main_arg0) = m ((c.tc : Thread Cert.QuantiseRef.nD Cert.QuantiseRef.τ).loc Cert.QuantiseRef.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_labels_in_vocab [hLossIdeal : Cert.LossIdeal.Facts] [hPre_labels_in_vocab : Cert.Pre_labels_in_vocab.Facts] : Prop :=
  ∀ (m : (ℓ : Loc Cert.LossIdeal.nD Cert.LossIdeal.τ Cert.LossIdeal.sig) → Buf (Elt Ideal) ℓ) (g : Dev Cert.LossIdeal.nD → PrngReg), Pre_LossIdeal_labels_in_vocab m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_labels_in_vocab [hLossRefIdeal : Cert.LossRefIdeal.Facts] [hPre_labels_in_vocab : Cert.Pre_labels_in_vocab.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_labels_in_vocab m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def bitexact_Quantise_QuantiseRef [hQuantise : Cert.Quantise.Facts] [hQuantiseRef : Cert.QuantiseRef.Facts] : Prop :=
  ∀ (m : (ℓ : Loc Cert.Quantise.nD Cert.Quantise.τ Cert.Quantise.sig) → Buf (Elt Bits) ℓ) (g : Dev Cert.Quantise.nD → PrngReg)
    (m' : (ℓ : Loc Cert.QuantiseRef.nD Cert.QuantiseRef.τ Cert.QuantiseRef.sig) → Buf (Elt Bits) ℓ) (g' : Dev Cert.QuantiseRef.nD → PrngReg), Pre_Quantise m →
    (∀ c : Dev Cert.Quantise.nD,
      m' ((c.tc : Thread Cert.QuantiseRef.nD Cert.QuantiseRef.τ).loc Cert.QuantiseRef.main_arg0) = m ((c.tc : Thread Cert.Quantise.nD Cert.Quantise.τ).loc Cert.Quantise.main_arg0)) →
    ∃ (v0 : (c : Dev Cert.Quantise.nD) → Buf (Elt Bits) ((c.tc : Thread Cert.Quantise.nD Cert.Quantise.τ).loc Cert.Quantise.main_v1_0)) (v1 : (c : Dev Cert.Quantise.nD) → Buf (Elt Bits) ((c.tc : Thread Cert.Quantise.nD Cert.Quantise.τ).loc Cert.Quantise.main_v1_1)) (v2 : (c : Dev Cert.Quantise.nD) → Buf (Elt Bits) ((c.tc : Thread Cert.Quantise.nD Cert.Quantise.τ).loc Cert.Quantise.main_v1_2)),
      θ_run (Cert.Quantise.defs (F := Bits)) (onTc (τ := Cert.Quantise.τ) (Cert.Quantise.main (F := Bits))) ⟨m, fun _ => 0, g⟩ (fun r => ∀ c : Dev Cert.Quantise.nD,
          r.2.mem ((c.tc : Thread Cert.Quantise.nD Cert.Quantise.τ).loc Cert.Quantise.main_v1_0) = v0 c
          ∧ r.2.mem ((c.tc : Thread Cert.Quantise.nD Cert.Quantise.τ).loc Cert.Quantise.main_v1_1) = v1 c
          ∧ r.2.mem ((c.tc : Thread Cert.Quantise.nD Cert.Quantise.τ).loc Cert.Quantise.main_v1_2) = v2 c
          ∧ r.2.mem ((c.tc : Thread Cert.Quantise.nD Cert.Quantise.τ).loc Cert.Quantise.main_arg0) = m ((c.tc : Thread Cert.Quantise.nD Cert.Quantise.τ).loc Cert.Quantise.main_arg0))
      ∧ θ_run (Cert.QuantiseRef.defs (F := Bits)) (onTc (τ := Cert.QuantiseRef.τ) (Cert.QuantiseRef.main (F := Bits))) ⟨m', fun _ => 0, g'⟩ (fun r => ∀ c : Dev Cert.QuantiseRef.nD,
          r.2.mem ((c.tc : Thread Cert.QuantiseRef.nD Cert.QuantiseRef.τ).loc Cert.QuantiseRef.main_v2) = v0 c
          ∧ r.2.mem ((c.tc : Thread Cert.QuantiseRef.nD Cert.QuantiseRef.τ).loc Cert.QuantiseRef.main_v3) = v1 c
          ∧ r.2.mem ((c.tc : Thread Cert.QuantiseRef.nD Cert.QuantiseRef.τ).loc Cert.QuantiseRef.main_v4) = v2 c
          ∧ r.2.mem ((c.tc : Thread Cert.QuantiseRef.nD Cert.QuantiseRef.τ).loc Cert.QuantiseRef.main_arg0) = m' ((c.tc : Thread Cert.QuantiseRef.nD Cert.QuantiseRef.τ).loc Cert.QuantiseRef.main_arg0))

def preserves_Loss_LossIdeal : Prop :=
  True

def algebraic_LossIdeal_LossRefIdeal_pre_labels_in_vocab [hLossIdeal : Cert.LossIdeal.Facts] [hLossRefIdeal : Cert.LossRefIdeal.Facts] [hPre_labels_in_vocab : Cert.Pre_labels_in_vocab.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_labels_in_vocab m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v26) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def Claim : Prop :=
  ∃ (hQuantise : Cert.Quantise.Facts) (hQuantiseRef : Cert.QuantiseRef.Facts) (hLoss : Cert.Loss.Facts) (hLossIdeal : Cert.LossIdeal.Facts) (hLossRefIdeal : Cert.LossRefIdeal.Facts) (hPre_labels_in_vocab : Cert.Pre_labels_in_vocab.Facts),
    quiescent_Quantise (hQuantise := hQuantise)
    ∧ quiescent_QuantiseRef (hQuantiseRef := hQuantiseRef)
    ∧ quiescent_Loss (hLoss := hLoss)
    ∧ quiescent_LossIdeal (hLossIdeal := hLossIdeal)
    ∧ quiescent_LossIdeal_pre_labels_in_vocab (hLossIdeal := hLossIdeal) (hPre_labels_in_vocab := hPre_labels_in_vocab)
    ∧ quiescent_LossRefIdeal (hLossRefIdeal := hLossRefIdeal)
    ∧ quiescent_LossRefIdeal_pre_labels_in_vocab (hLossRefIdeal := hLossRefIdeal) (hPre_labels_in_vocab := hPre_labels_in_vocab)
    ∧ bitexact_Quantise_QuantiseRef (hQuantise := hQuantise) (hQuantiseRef := hQuantiseRef)
    ∧ preserves_Loss_LossIdeal
    ∧ algebraic_LossIdeal_LossRefIdeal_pre_labels_in_vocab (hLossIdeal := hLossIdeal) (hLossRefIdeal := hLossRefIdeal) (hPre_labels_in_vocab := hPre_labels_in_vocab)
-- ==== Pre_labels_in_vocab.lean ====
abbrev S384x16384 : Shape := ⟨2, ![384, 16384]⟩
abbrev S16000x16384 : Shape := ⟨2, ![16000, 16384]⟩
abbrev S125x128 : Shape := ⟨2, ![125, 128]⟩
abbrev S1x384 : Shape := ⟨2, ![1, 384]⟩
abbrev S_ : Shape := ⟨0, ![]⟩

class Facts : Prop where
  bcast_S_S1x384 : S_.BroadcastsInDim S1x384 (![] : Fin 0 → Fin S1x384.rank)

variable [Facts]

def fn {F : FTy → Type} [FloatOps F] (main_arg0 : FVec F S384x16384 .bf16) (main_arg1 : FVec F S16000x16384 .fp8e4m3) (main_arg2 : FVec F S125x128 .f32) (main_arg3 : IVec S1x384 32) : IVec S1x384 1 :=
  let main_c : IVec S_ 32 := constantI S_ 32 16000#32
  let main_v0 : IVec S1x384 32 := broadcastInDim S1x384 ![] bcast_S_S1x384 main_c
  let main_v1 : IVec S1x384 1 := cmpi .slt main_arg3 main_v0
  main_v1
-- ==== Quantise.lean ====
abbrev S1x384x16384 : Shape := ⟨3, ![1, 384, 16384]⟩
abbrev S384x16384 : Shape := ⟨2, ![384, 16384]⟩
abbrev S384x128 : Shape := ⟨2, ![384, 128]⟩
abbrev S32x16384 : Shape := ⟨2, ![32, 16384]⟩
abbrev S32x128 : Shape := ⟨2, ![32, 128]⟩
abbrev S32 : Shape := ⟨1, ![32]⟩
abbrev S32x1 : Shape := ⟨2, ![32, 1]⟩

abbrev nBuf : Space → Nat
  | .hbm => 5
  | .vmem => 8
  | .smem => 0
  | _ => 0

abbrev bufTy : (tb : Table) → Fin (tcTables nBuf tb) → BufTy
  | .hbm, ⟨0, _⟩ => ⟨S1x384x16384, .bf16⟩
  | .hbm, ⟨1, _⟩ => ⟨S384x16384, .bf16⟩
  | .hbm, ⟨2, _⟩ => ⟨S384x16384, .fp8e4m3⟩
  | .hbm, ⟨3, _⟩ => ⟨S384x128, .f32⟩
  | .hbm, ⟨4, _⟩ => ⟨S384x16384, .bf16⟩
  | .local _ .vmem, ⟨0, _⟩ => ⟨S32x16384, .bf16⟩
  | .local _ .vmem, ⟨1, _⟩ => ⟨S32x16384, .bf16⟩
  | .local _ .vmem, ⟨2, _⟩ => ⟨S32x16384, .fp8e4m3⟩
  | .local _ .vmem, ⟨3, _⟩ => ⟨S32x16384, .fp8e4m3⟩
  | .local _ .vmem, ⟨4, _⟩ => ⟨S32x128, .f32⟩
  | .local _ .vmem, ⟨5, _⟩ => ⟨S32x128, .f32⟩
  | .local _ .vmem, ⟨6, _⟩ => ⟨S32x16384, .bf16⟩
  | .local _ .vmem, ⟨7, _⟩ => ⟨S32x16384, .bf16⟩
  | _, _ => ⟨S1x384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x16384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantiseRef.lean ====
abbrev S1x384x16384 : Shape := ⟨3, ![1, 384, 16384]⟩
abbrev S49152x128 : Shape := ⟨2, ![49152, 128]⟩
abbrev S49152x1 : Shape := ⟨2, ![49152, 1]⟩
abbrev S49152 : Shape := ⟨1, ![49152]⟩
abbrev S384x16384 : Shape := ⟨2, ![384, 16384]⟩
abbrev S384x128 : Shape := ⟨2, ![384, 128]⟩

abbrev nBuf : Space → Nat
  | .hbm => 8
  | .vmem => 4
  | .smem => 0
  | _ => 0

abbrev bufTy : (tb : Table) → Fin (tcTables nBuf tb) → BufTy
  | .hbm, ⟨0, _⟩ => ⟨S1x384x16384, .bf16⟩
  | .hbm, ⟨1, _⟩ => ⟨S49152x128, .bf16⟩
  | .hbm, ⟨2, _⟩ => ⟨S49152x128, .fp8e4m3⟩
  | .hbm, ⟨3, _⟩ => ⟨S49152x1, .f32⟩
  | .hbm, ⟨4, _⟩ => ⟨S49152x128, .bf16⟩
  | .hbm, ⟨5, _⟩ => ⟨S384x16384, .fp8e4m3⟩
  | .hbm, ⟨6, _⟩ => ⟨S384x128, .f32⟩
  | .hbm, ⟨7, _⟩ => ⟨S384x16384, .bf16⟩
  | .local _ .vmem, ⟨0, _⟩ => ⟨S49152x128, .bf16⟩
  | .local _ .vmem, ⟨1, _⟩ => ⟨S49152x128, .fp8e4m3⟩
  | .local _ .vmem, ⟨2, _⟩ => ⟨S49152x1, .f32⟩
  | .local _ .vmem, ⟨3, _⟩ => ⟨S49152x128, .bf16⟩
  | _, _ => ⟨S1x384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S49152x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S49152x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S49152x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S49152x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Loss.lean ====
abbrev S384x16384 : Shape := ⟨2, ![384, 16384]⟩
abbrev S16000x16384 : Shape := ⟨2, ![16000, 16384]⟩
abbrev S125x128 : Shape := ⟨2, ![125, 128]⟩
abbrev S1x384 : Shape := ⟨2, ![1, 384]⟩
abbrev S384x1 : Shape := ⟨2, ![384, 1]⟩
abbrev S512x16384 : Shape := ⟨2, ![512, 16384]⟩
abbrev S384x512 : Shape := ⟨2, ![384, 512]⟩
abbrev S128x128 : Shape := ⟨2, ![128, 128]⟩
abbrev S1x1 : Shape := ⟨2, ![1, 1]⟩
abbrev S128x2048 : Shape := ⟨2, ![128, 2048]⟩
abbrev S512x2048 : Shape := ⟨2, ![512, 2048]⟩
abbrev S384x2048 : Shape := ⟨2, ![384, 2048]⟩
abbrev S384 : Shape := ⟨1, ![384]⟩

abbrev nBuf : Space → Nat
  | .hbm => 6
  | .vmem => 8
  | .smem => 1
  | _ => 0

abbrev bufTy : (tb : Table) → Fin (tcTables nBuf tb) → BufTy
  | .hbm, ⟨0, _⟩ => ⟨S384x16384, .bf16⟩
  | .hbm, ⟨1, _⟩ => ⟨S16000x16384, .fp8e4m3⟩
  | .hbm, ⟨2, _⟩ => ⟨S125x128, .f32⟩
  | .hbm, ⟨3, _⟩ => ⟨S1x384, .i32⟩
  | .hbm, ⟨4, _⟩ => ⟨S384x1, .i32⟩
  | .hbm, ⟨5, _⟩ => ⟨S384x1, .f32⟩
  | .local _ .vmem, ⟨0, _⟩ => ⟨S384x16384, .bf16⟩
  | .local _ .vmem, ⟨1, _⟩ => ⟨S512x16384, .fp8e4m3⟩
  | .local _ .vmem, ⟨2, _⟩ => ⟨S512x16384, .fp8e4m3⟩
  | .local _ .vmem, ⟨3, _⟩ => ⟨S384x1, .i32⟩
  | .local _ .vmem, ⟨4, _⟩ => ⟨S384x1, .f32⟩
  | .local _ .vmem, ⟨5, _⟩ => ⟨S384x1, .f32⟩
  | .local _ .vmem, ⟨6, _⟩ => ⟨S384x1, .f32⟩
  | .local _ .vmem, ⟨7, _⟩ => ⟨S384x1, .f32⟩
  | .local _ .smem, ⟨0, _⟩ => ⟨S125x128, .f32⟩
  | _, _ => ⟨S384x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![32], ![false]⟩

def k0_off1 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v9 : Index := Scalar.indexCast v6
  let c0_3 : Index := 0#32
  ![v9.toNat, 0]
def k0_off2 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v16 : Index := Scalar.indexCast v6
  let c1 : Index := 1#32
  ![v16.toNat, 1]
def k0_off3 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v23 : Index := Scalar.indexCast v6
  let c2 : Index := 2#32
  ![v23.toNat, 2]
def k0_off4 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v30 : Index := Scalar.indexCast v6
  let c3 : Index := 3#32
  ![v30.toNat, 3]
def k0_off5 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v37 : Index := Scalar.indexCast v6
  let c4 : Index := 4#32
  ![v37.toNat, 4]
def k0_off6 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v44 : Index := Scalar.indexCast v6
  let c5 : Index := 5#32
  ![v44.toNat, 5]
def k0_off7 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v51 : Index := Scalar.indexCast v6
  let c6 : Index := 6#32
  ![v51.toNat, 6]
def k0_off8 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v58 : Index := Scalar.indexCast v6
  let c7 : Index := 7#32
  ![v58.toNat, 7]
def k0_off9 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v65 : Index := Scalar.indexCast v6
  let c8 : Index := 8#32
  ![v65.toNat, 8]
def k0_off10 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v72 : Index := Scalar.indexCast v6
  let c9 : Index := 9#32
  ![v72.toNat, 9]
def k0_off11 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v79 : Index := Scalar.indexCast v6
  let c10 : Index := 10#32
  ![v79.toNat, 10]
def k0_off12 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v86 : Index := Scalar.indexCast v6
  let c11 : Index := 11#32
  ![v86.toNat, 11]
def k0_off13 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v93 : Index := Scalar.indexCast v6
  let c12 : Index := 12#32
  ![v93.toNat, 12]
def k0_off14 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v100 : Index := Scalar.indexCast v6
  let c13 : Index := 13#32
  ![v100.toNat, 13]
def k0_off15 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v107 : Index := Scalar.indexCast v6
  let c14 : Index := 14#32
  ![v107.toNat, 14]
def k0_off16 (i : grid0.Coords) (c0_i32_1 : BitVec 32) : Fin 2 → Nat :=
  let arg0 : BitVec 32 := BitVec.ofNat 32 (i 0).val
  let c4_i32 : BitVec 32 := 4#32
  let v4 : BitVec 32 := Scalar.muli arg0 c4_i32
  let v5 : BitVec 32 := Scalar.addi v4 c0_i32_1
  let c124_i32 : BitVec 32 := 124#32
  let v6 : BitVec 32 := Scalar.minsi v5 c124_i32
  let v114 : Index := Scalar.indexCast v6
  let c15 : Index := 15#32
  ![v114.toNat, 15]
def k0_off17 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v477 : Index := Scalar.indexCast v474
  let c16 : Index := 16#32
  ![v477.toNat, 16]
def k0_off18 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v484 : Index := Scalar.indexCast v474
  let c17 : Index := 17#32
  ![v484.toNat, 17]
def k0_off19 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v491 : Index := Scalar.indexCast v474
  let c18 : Index := 18#32
  ![v491.toNat, 18]
def k0_off20 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v498 : Index := Scalar.indexCast v474
  let c19 : Index := 19#32
  ![v498.toNat, 19]
def k0_off21 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v505 : Index := Scalar.indexCast v474
  let c20 : Index := 20#32
  ![v505.toNat, 20]
def k0_off22 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v512 : Index := Scalar.indexCast v474
  let c21 : Index := 21#32
  ![v512.toNat, 21]
def k0_off23 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v519 : Index := Scalar.indexCast v474
  let c22 : Index := 22#32
  ![v519.toNat, 22]
def k0_off24 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v526 : Index := Scalar.indexCast v474
  let c23 : Index := 23#32
  ![v526.toNat, 23]
def k0_off25 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v533 : Index := Scalar.indexCast v474
  let c24 : Index := 24#32
  ![v533.toNat, 24]
def k0_off26 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v540 : Index := Scalar.indexCast v474
  let c25 : Index := 25#32
  ![v540.toNat, 25]
def k0_off27 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v547 : Index := Scalar.indexCast v474
  let c26 : Index := 26#32
  ![v547.toNat, 26]
def k0_off28 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v554 : Index := Scalar.indexCast v474
  let c27 : Index := 27#32
  ![v554.toNat, 27]
def k0_off29 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v561 : Index := Scalar.indexCast v474
  let c28 : Index := 28#32
  ![v561.toNat, 28]
def k0_off30 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v568 : Index := Scalar.indexCast v474
  let c29 : Index := 29#32
  ![v568.toNat, 29]
def k0_off31 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v575 : Index := Scalar.indexCast v474
  let c30 : Index := 30#32
  ![v575.toNat, 30]
def k0_off32 (i : grid0.Coords) (c0_i32_173 : BitVec 32) : Fin 2 → Nat :=
  let arg0 : BitVec 32 := BitVec.ofNat 32 (i 0).val
  let c4_i32_172 : BitVec 32 := 4#32
  let v472 : BitVec 32 := Scalar.muli arg0 c4_i32_172
  let v473 : BitVec 32 := Scalar.addi v472 c0_i32_173
  let c124_i32_174 : BitVec 32 := 124#32
  let v474 : BitVec 32 := Scalar.minsi v473 c124_i32_174
  let v582 : Index := Scalar.indexCast v474
  let c31 : Index := 31#32
  ![v582.toNat, 31]
def k0_off33 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v945 : Index := Scalar.indexCast v942
  let c32 : Index := 32#32
  ![v945.toNat, 32]
def k0_off34 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v952 : Index := Scalar.indexCast v942
  let c33 : Index := 33#32
  ![v952.toNat, 33]
def k0_off35 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v959 : Index := Scalar.indexCast v942
  let c34 : Index := 34#32
  ![v959.toNat, 34]
def k0_off36 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v966 : Index := Scalar.indexCast v942
  let c35 : Index := 35#32
  ![v966.toNat, 35]
def k0_off37 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v973 : Index := Scalar.indexCast v942
  let c36 : Index := 36#32
  ![v973.toNat, 36]
def k0_off38 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v980 : Index := Scalar.indexCast v942
  let c37 : Index := 37#32
  ![v980.toNat, 37]
def k0_off39 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v987 : Index := Scalar.indexCast v942
  let c38 : Index := 38#32
  ![v987.toNat, 38]
def k0_off40 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v994 : Index := Scalar.indexCast v942
  let c39 : Index := 39#32
  ![v994.toNat, 39]
def k0_off41 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1001 : Index := Scalar.indexCast v942
  let c40 : Index := 40#32
  ![v1001.toNat, 40]
def k0_off42 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1008 : Index := Scalar.indexCast v942
  let c41 : Index := 41#32
  ![v1008.toNat, 41]
def k0_off43 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1015 : Index := Scalar.indexCast v942
  let c42 : Index := 42#32
  ![v1015.toNat, 42]
def k0_off44 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1022 : Index := Scalar.indexCast v942
  let c43 : Index := 43#32
  ![v1022.toNat, 43]
def k0_off45 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1029 : Index := Scalar.indexCast v942
  let c44 : Index := 44#32
  ![v1029.toNat, 44]
def k0_off46 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1036 : Index := Scalar.indexCast v942
  let c45 : Index := 45#32
  ![v1036.toNat, 45]
def k0_off47 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1043 : Index := Scalar.indexCast v942
  let c46 : Index := 46#32
  ![v1043.toNat, 46]
def k0_off48 (i : grid0.Coords) (c0_i32_348 : BitVec 32) : Fin 2 → Nat :=
  let arg0 : BitVec 32 := BitVec.ofNat 32 (i 0).val
  let c4_i32_347 : BitVec 32 := 4#32
  let v940 : BitVec 32 := Scalar.muli arg0 c4_i32_347
  let v941 : BitVec 32 := Scalar.addi v940 c0_i32_348
  let c124_i32_349 : BitVec 32 := 124#32
  let v942 : BitVec 32 := Scalar.minsi v941 c124_i32_349
  let v1050 : Index := Scalar.indexCast v942
  let c47 : Index := 47#32
  ![v1050.toNat, 47]
def k0_off49 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1413 : Index := Scalar.indexCast v1410
  let c48 : Index := 48#32
  ![v1413.toNat, 48]
def k0_off50 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1420 : Index := Scalar.indexCast v1410
  let c49 : Index := 49#32
  ![v1420.toNat, 49]
def k0_off51 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1427 : Index := Scalar.indexCast v1410
  let c50 : Index := 50#32
  ![v1427.toNat, 50]
def k0_off52 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1434 : Index := Scalar.indexCast v1410
  let c51 : Index := 51#32
  ![v1434.toNat, 51]
def k0_off53 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1441 : Index := Scalar.indexCast v1410
  let c52 : Index := 52#32
  ![v1441.toNat, 52]
def k0_off54 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1448 : Index := Scalar.indexCast v1410
  let c53 : Index := 53#32
  ![v1448.toNat, 53]
def k0_off55 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1455 : Index := Scalar.indexCast v1410
  let c54 : Index := 54#32
  ![v1455.toNat, 54]
def k0_off56 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1462 : Index := Scalar.indexCast v1410
  let c55 : Index := 55#32
  ![v1462.toNat, 55]
def k0_off57 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1469 : Index := Scalar.indexCast v1410
  let c56 : Index := 56#32
  ![v1469.toNat, 56]
def k0_off58 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1476 : Index := Scalar.indexCast v1410
  let c57 : Index := 57#32
  ![v1476.toNat, 57]
def k0_off59 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1483 : Index := Scalar.indexCast v1410
  let c58 : Index := 58#32
  ![v1483.toNat, 58]
def k0_off60 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1490 : Index := Scalar.indexCast v1410
  let c59 : Index := 59#32
  ![v1490.toNat, 59]
def k0_off61 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1497 : Index := Scalar.indexCast v1410
  let c60 : Index := 60#32
  ![v1497.toNat, 60]
def k0_off62 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1504 : Index := Scalar.indexCast v1410
  let c61 : Index := 61#32
  ![v1504.toNat, 61]
def k0_off63 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1511 : Index := Scalar.indexCast v1410
  let c62 : Index := 62#32
  ![v1511.toNat, 62]
def k0_off64 (i : grid0.Coords) (c0_i32_523 : BitVec 32) : Fin 2 → Nat :=
  let arg0 : BitVec 32 := BitVec.ofNat 32 (i 0).val
  let c4_i32_522 : BitVec 32 := 4#32
  let v1408 : BitVec 32 := Scalar.muli arg0 c4_i32_522
  let v1409 : BitVec 32 := Scalar.addi v1408 c0_i32_523
  let c124_i32_524 : BitVec 32 := 124#32
  let v1410 : BitVec 32 := Scalar.minsi v1409 c124_i32_524
  let v1518 : Index := Scalar.indexCast v1410
  let c63 : Index := 63#32
  ![v1518.toNat, 63]
def k0_off65 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1881 : Index := Scalar.indexCast v1878
  let c64 : Index := 64#32
  ![v1881.toNat, 64]
def k0_off66 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1888 : Index := Scalar.indexCast v1878
  let c65 : Index := 65#32
  ![v1888.toNat, 65]
def k0_off67 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1895 : Index := Scalar.indexCast v1878
  let c66 : Index := 66#32
  ![v1895.toNat, 66]
def k0_off68 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1902 : Index := Scalar.indexCast v1878
  let c67 : Index := 67#32
  ![v1902.toNat, 67]
def k0_off69 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1909 : Index := Scalar.indexCast v1878
  let c68 : Index := 68#32
  ![v1909.toNat, 68]
def k0_off70 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1916 : Index := Scalar.indexCast v1878
  let c69 : Index := 69#32
  ![v1916.toNat, 69]
def k0_off71 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1923 : Index := Scalar.indexCast v1878
  let c70 : Index := 70#32
  ![v1923.toNat, 70]
def k0_off72 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1930 : Index := Scalar.indexCast v1878
  let c71 : Index := 71#32
  ![v1930.toNat, 71]
def k0_off73 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1937 : Index := Scalar.indexCast v1878
  let c72 : Index := 72#32
  ![v1937.toNat, 72]
def k0_off74 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1944 : Index := Scalar.indexCast v1878
  let c73 : Index := 73#32
  ![v1944.toNat, 73]
def k0_off75 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1951 : Index := Scalar.indexCast v1878
  let c74 : Index := 74#32
  ![v1951.toNat, 74]
def k0_off76 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1958 : Index := Scalar.indexCast v1878
  let c75 : Index := 75#32
  ![v1958.toNat, 75]
def k0_off77 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1965 : Index := Scalar.indexCast v1878
  let c76 : Index := 76#32
  ![v1965.toNat, 76]
def k0_off78 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1972 : Index := Scalar.indexCast v1878
  let c77 : Index := 77#32
  ![v1972.toNat, 77]
def k0_off79 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1979 : Index := Scalar.indexCast v1878
  let c78 : Index := 78#32
  ![v1979.toNat, 78]
def k0_off80 (i : grid0.Coords) (c0_i32_698 : BitVec 32) : Fin 2 → Nat :=
  let arg0 : BitVec 32 := BitVec.ofNat 32 (i 0).val
  let c4_i32_697 : BitVec 32 := 4#32
  let v1876 : BitVec 32 := Scalar.muli arg0 c4_i32_697
  let v1877 : BitVec 32 := Scalar.addi v1876 c0_i32_698
  let c124_i32_699 : BitVec 32 := 124#32
  let v1878 : BitVec 32 := Scalar.minsi v1877 c124_i32_699
  let v1986 : Index := Scalar.indexCast v1878
  let c79 : Index := 79#32
  ![v1986.toNat, 79]
def k0_off81 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2349 : Index := Scalar.indexCast v2346
  let c80 : Index := 80#32
  ![v2349.toNat, 80]
def k0_off82 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2356 : Index := Scalar.indexCast v2346
  let c81 : Index := 81#32
  ![v2356.toNat, 81]
def k0_off83 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2363 : Index := Scalar.indexCast v2346
  let c82 : Index := 82#32
  ![v2363.toNat, 82]
def k0_off84 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2370 : Index := Scalar.indexCast v2346
  let c83 : Index := 83#32
  ![v2370.toNat, 83]
def k0_off85 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2377 : Index := Scalar.indexCast v2346
  let c84 : Index := 84#32
  ![v2377.toNat, 84]
def k0_off86 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2384 : Index := Scalar.indexCast v2346
  let c85 : Index := 85#32
  ![v2384.toNat, 85]
def k0_off87 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2391 : Index := Scalar.indexCast v2346
  let c86 : Index := 86#32
  ![v2391.toNat, 86]
def k0_off88 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2398 : Index := Scalar.indexCast v2346
  let c87 : Index := 87#32
  ![v2398.toNat, 87]
def k0_off89 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2405 : Index := Scalar.indexCast v2346
  let c88 : Index := 88#32
  ![v2405.toNat, 88]
def k0_off90 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2412 : Index := Scalar.indexCast v2346
  let c89 : Index := 89#32
  ![v2412.toNat, 89]
def k0_off91 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2419 : Index := Scalar.indexCast v2346
  let c90 : Index := 90#32
  ![v2419.toNat, 90]
def k0_off92 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2426 : Index := Scalar.indexCast v2346
  let c91 : Index := 91#32
  ![v2426.toNat, 91]
def k0_off93 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2433 : Index := Scalar.indexCast v2346
  let c92 : Index := 92#32
  ![v2433.toNat, 92]
def k0_off94 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2440 : Index := Scalar.indexCast v2346
  let c93 : Index := 93#32
  ![v2440.toNat, 93]
def k0_off95 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2447 : Index := Scalar.indexCast v2346
  let c94 : Index := 94#32
  ![v2447.toNat, 94]
def k0_off96 (i : grid0.Coords) (c0_i32_873 : BitVec 32) : Fin 2 → Nat :=
  let arg0 : BitVec 32 := BitVec.ofNat 32 (i 0).val
  let c4_i32_872 : BitVec 32 := 4#32
  let v2344 : BitVec 32 := Scalar.muli arg0 c4_i32_872
  let v2345 : BitVec 32 := Scalar.addi v2344 c0_i32_873
  let c124_i32_874 : BitVec 32 := 124#32
  let v2346 : BitVec 32 := Scalar.minsi v2345 c124_i32_874
  let v2454 : Index := Scalar.indexCast v2346
  let c95 : Index := 95#32
  ![v2454.toNat, 95]
def k0_off97 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2817 : Index := Scalar.indexCast v2814
  let c96 : Index := 96#32
  ![v2817.toNat, 96]
def k0_off98 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2824 : Index := Scalar.indexCast v2814
  let c97 : Index := 97#32
  ![v2824.toNat, 97]
def k0_off99 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2831 : Index := Scalar.indexCast v2814
  let c98 : Index := 98#32
  ![v2831.toNat, 98]
def k0_off100 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2838 : Index := Scalar.indexCast v2814
  let c99 : Index := 99#32
  ![v2838.toNat, 99]
def k0_off101 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2845 : Index := Scalar.indexCast v2814
  let c100 : Index := 100#32
  ![v2845.toNat, 100]
def k0_off102 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2852 : Index := Scalar.indexCast v2814
  let c101 : Index := 101#32
  ![v2852.toNat, 101]
def k0_off103 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2859 : Index := Scalar.indexCast v2814
  let c102 : Index := 102#32
  ![v2859.toNat, 102]
def k0_off104 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2866 : Index := Scalar.indexCast v2814
  let c103 : Index := 103#32
  ![v2866.toNat, 103]
def k0_off105 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2873 : Index := Scalar.indexCast v2814
  let c104 : Index := 104#32
  ![v2873.toNat, 104]
def k0_off106 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2880 : Index := Scalar.indexCast v2814
  let c105 : Index := 105#32
  ![v2880.toNat, 105]
def k0_off107 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2887 : Index := Scalar.indexCast v2814
  let c106 : Index := 106#32
  ![v2887.toNat, 106]
def k0_off108 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2894 : Index := Scalar.indexCast v2814
  let c107 : Index := 107#32
  ![v2894.toNat, 107]
def k0_off109 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2901 : Index := Scalar.indexCast v2814
  let c108 : Index := 108#32
  ![v2901.toNat, 108]
def k0_off110 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2908 : Index := Scalar.indexCast v2814
  let c109 : Index := 109#32
  ![v2908.toNat, 109]
def k0_off111 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2915 : Index := Scalar.indexCast v2814
  let c110 : Index := 110#32
  ![v2915.toNat, 110]
def k0_off112 (i : grid0.Coords) (c0_i32_1048 : BitVec 32) : Fin 2 → Nat :=
  let arg0 : BitVec 32 := BitVec.ofNat 32 (i 0).val
  let c4_i32_1047 : BitVec 32 := 4#32
  let v2812 : BitVec 32 := Scalar.muli arg0 c4_i32_1047
  let v2813 : BitVec 32 := Scalar.addi v2812 c0_i32_1048
  let c124_i32_1049 : BitVec 32 := 124#32
  let v2814 : BitVec 32 := Scalar.minsi v2813 c124_i32_1049
  let v2922 : Index := Scalar.indexCast v2814
  let c111 : Index := 111#32
  ![v2922.toNat, 111]
def k0_off113 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3285 : Index := Scalar.indexCast v3282
  let c112 : Index := 112#32
  ![v3285.toNat, 112]
def k0_off114 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3292 : Index := Scalar.indexCast v3282
  let c113 : Index := 113#32
  ![v3292.toNat, 113]
def k0_off115 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3299 : Index := Scalar.indexCast v3282
  let c114 : Index := 114#32
  ![v3299.toNat, 114]
def k0_off116 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3306 : Index := Scalar.indexCast v3282
  let c115 : Index := 115#32
  ![v3306.toNat, 115]
def k0_off117 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3313 : Index := Scalar.indexCast v3282
  let c116 : Index := 116#32
  ![v3313.toNat, 116]
def k0_off118 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3320 : Index := Scalar.indexCast v3282
  let c117 : Index := 117#32
  ![v3320.toNat, 117]
def k0_off119 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3327 : Index := Scalar.indexCast v3282
  let c118 : Index := 118#32
  ![v3327.toNat, 118]
def k0_off120 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3334 : Index := Scalar.indexCast v3282
  let c119 : Index := 119#32
  ![v3334.toNat, 119]
def k0_off121 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3341 : Index := Scalar.indexCast v3282
  let c120 : Index := 120#32
  ![v3341.toNat, 120]
def k0_off122 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3348 : Index := Scalar.indexCast v3282
  let c121 : Index := 121#32
  ![v3348.toNat, 121]
def k0_off123 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3355 : Index := Scalar.indexCast v3282
  let c122 : Index := 122#32
  ![v3355.toNat, 122]
def k0_off124 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3362 : Index := Scalar.indexCast v3282
  let c123 : Index := 123#32
  ![v3362.toNat, 123]
def k0_off125 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3369 : Index := Scalar.indexCast v3282
  let c124 : Index := 124#32
  ![v3369.toNat, 124]
def k0_off126 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3376 : Index := Scalar.indexCast v3282
  let c125 : Index := 125#32
  ![v3376.toNat, 125]
def k0_off127 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3383 : Index := Scalar.indexCast v3282
  let c126 : Index := 126#32
  ![v3383.toNat, 126]
def k0_off128 (i : grid0.Coords) (c0_i32_1223 : BitVec 32) : Fin 2 → Nat :=
  let arg0 : BitVec 32 := BitVec.ofNat 32 (i 0).val
  let c4_i32_1222 : BitVec 32 := 4#32
  let v3280 : BitVec 32 := Scalar.muli arg0 c4_i32_1222
  let v3281 : BitVec 32 := Scalar.addi v3280 c0_i32_1223
  let c124_i32_1224 : BitVec 32 := 124#32
  let v3282 : BitVec 32 := Scalar.minsi v3281 c124_i32_1224
  let v3390 : Index := Scalar.indexCast v3282
  let c127 : Index := 127#32
  ![v3390.toNat, 127]
def k0_cond2 (i : grid0.Coords) : BitVec 1 :=
  let arg0 : BitVec 32 := BitVec.ofNat 32 (i 0).val
  let c31_i32 : BitVec 32 := 31#32
  let v3789 : BitVec 1 := Scalar.cmpi .eq arg0 c31_i32
  let v3790 : BitVec 32 := Scalar.extui v3789
  let c0_i32_1416 : BitVec 32 := 0#32
  let v3791 : BitVec 1 := Scalar.cmpi .ne v3790 c0_i32_1416
  v3791

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S125x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S384x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossRefIdeal.lean ====
abbrev S384x16384 : Shape := ⟨2, ![384, 16384]⟩
abbrev S16000x16384 : Shape := ⟨2, ![16000, 16384]⟩
abbrev S125x128 : Shape := ⟨2, ![125, 128]⟩
abbrev S1x384 : Shape := ⟨2, ![1, 384]⟩
abbrev S125x128x128x128 : Shape := ⟨4, ![125, 128, 128, 128]⟩
abbrev S125x1x128x1 : Shape := ⟨4, ![125, 1, 128, 1]⟩
abbrev S384x16000 : Shape := ⟨2, ![384, 16000]⟩
abbrev S_ : Shape := ⟨0, ![]⟩
abbrev S384 : Shape := ⟨1, ![384]⟩
abbrev S384x1 : Shape := ⟨2, ![384, 1]⟩

abbrev nBuf : Space → Nat
  | .hbm => 38
  | .vmem => 2
  | .smem => 0
  | _ => 0

abbrev bufTy : (tb : Table) → Fin (tcTables nBuf tb) → BufTy
  | .hbm, ⟨0, _⟩ => ⟨S384x16384, .bf16⟩
  | .hbm, ⟨1, _⟩ => ⟨S16000x16384, .fp8e4m3⟩
  | .hbm, ⟨2, _⟩ => ⟨S125x128, .f32⟩
  | .hbm, ⟨3, _⟩ => ⟨S1x384, .i32⟩
  | .hbm, ⟨4, _⟩ => ⟨S16000x16384, .bf16⟩
  | .hbm, ⟨5, _⟩ => ⟨S125x128x128x128, .bf16⟩
  | .hbm, ⟨6, _⟩ => ⟨S125x128, .bf16⟩
  | .hbm, ⟨7, _⟩ => ⟨S125x1x128x1, .bf16⟩
  | .hbm, ⟨8, _⟩ => ⟨S125x128x128x128, .bf16⟩
  | .hbm, ⟨9, _⟩ => ⟨S125x128x128x128, .bf16⟩
  | .hbm, ⟨10, _⟩ => ⟨S16000x16384, .bf16⟩
  | .hbm, ⟨11, _⟩ => ⟨S384x16000, .f32⟩
  | .hbm, ⟨12, _⟩ => ⟨S_, .f32⟩
  | .hbm, ⟨13, _⟩ => ⟨S384, .f32⟩
  | .hbm, ⟨14, _⟩ => ⟨S384x1, .f32⟩
  | .hbm, ⟨15, _⟩ => ⟨S384x16000, .f32⟩
  | .hbm, ⟨16, _⟩ => ⟨S384x16000, .f32⟩
  | .hbm, ⟨17, _⟩ => ⟨S384x16000, .f32⟩
  | .hbm, ⟨18, _⟩ => ⟨S_, .f32⟩
  | .hbm, ⟨19, _⟩ => ⟨S384, .f32⟩
  | .hbm, ⟨20, _⟩ => ⟨S384x1, .f32⟩
  | .hbm, ⟨21, _⟩ => ⟨S384x1, .f32⟩
  | .hbm, ⟨22, _⟩ => ⟨S384x1, .f32⟩
  | .hbm, ⟨23, _⟩ => ⟨S384x16000, .i32⟩
  | .hbm, ⟨24, _⟩ => ⟨S384x1, .i32⟩
  | .hbm, ⟨25, _⟩ => ⟨S384x16000, .i32⟩
  | .hbm, ⟨26, _⟩ => ⟨S384x16000, .i1⟩
  | .hbm, ⟨27, _⟩ => ⟨S_, .f32⟩
  | .hbm, ⟨28, _⟩ => ⟨S_, .f32⟩
  | .hbm, ⟨29, _⟩ => ⟨S384x16000, .f32⟩
  | .hbm, ⟨30, _⟩ => ⟨S384x16000, .f32⟩
  | .hbm, ⟨31, _⟩ => ⟨S_, .f32⟩
  | .hbm, ⟨32, _⟩ => ⟨S384, .f32⟩
  | .hbm, ⟨33, _⟩ => ⟨S384x1, .f32⟩
  | .hbm, ⟨34, _⟩ => ⟨S384x1, .f32⟩
  | .hbm, ⟨35, _⟩ => ⟨S_, .f32⟩
  | .hbm, ⟨36, _⟩ => ⟨S384x1, .f32⟩
  | .hbm, ⟨37, _⟩ => ⟨S384x1, .f32⟩
  | .local _ .vmem, ⟨0, _⟩ => ⟨S16000x16384, .fp8e4m3⟩
  | .local _ .vmem, ⟨1, _⟩ => ⟨S16000x16384, .bf16⟩
  | _, _ => ⟨S384x16384, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16000x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16000x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Loss.Body.lean ====
/- The loss kernel's body, written again as nested steps — one 128×128 block of the weight tile with its scale,
   a row of sixteen such blocks, a chunk of four rows and its product with the activations, and the eight chunks
   after one another — and the proof that the printed body is that program. -/
module

public import proofs.«01_k».proof.Proof.Gen.Loss
public import Idealize.ShloMosaic.Lib.Tactic
public import Idealize.ShloMosaic.Lib.Pipeline.Regions

@[expose] public section

set_option synthInstance.maxSize 4096

noncomputable section

namespace Cert.Loss.Hand

open Cert.Loss Facts₀ Idealize.ShloMosaic Idealize.ShloMosaic.TcCoe Idealize.SL.Sem

variable {F : FTy → Type} [FloatOps F]

/-- Programs of the kernel's body. -/
abbrev KProg (F : FTy → Type) (α : Type) : Type 1 := Prog (TpuEff nD τ sig (Elt F) Λ₀ .tc) α

/-! ## The pure values -/

/-- Row of the scale table that the block row `b` of grid point `i` reads: `4 i + b`, never past 124. -/
def srow (i : grid0.Coords) (b : Nat) : BitVec 32 :=
  Scalar.minsi (Scalar.addi (Scalar.muli (BitVec.ofNat 32 (i 0).val) 4#32) (BitVec.ofNat 32 b)) 124#32

/-- The scale's position in the table for block row `b` and block column `n`. -/
def soff (i : grid0.Coords) (b n : Nat) : Fin 2 → Nat := ![(Scalar.indexCast (srow i b)).toNat, n]

theorem srow_toNat (i : grid0.Coords) (b : Nat) (hb : b < 4) :
    (Scalar.indexCast (srow i b)).toNat = min (4 * (i 0).val + b) 124 :=
  (by decide +kernel : ∀ (k : Fin 32) (b : Fin 4),
    (Scalar.indexCast (Scalar.minsi (Scalar.addi (Scalar.muli (BitVec.ofNat 32 k.val) 4#32) (BitVec.ofNat 32 b.val)) 124#32)).toNat
      = min (4 * k.val + b.val) 124) (i 0) ⟨b, hb⟩

theorem soff_inb (i : grid0.Coords) (b n : Nat) (hb : b < 4) (hn : n < 128) :
    ∀ a, soff i b n a + S1x1.size a ≤ S125x128.size a := by
  have h := srow_toNat i b hb
  intro a
  match a with
  | 0 => show (Scalar.indexCast (srow i b)).toNat + 1 ≤ 125; omega
  | 1 => show n + 1 ≤ 128; omega

theorem woff_inb (b n : Nat) (hb : b < 4) (hn : n < 128) :
    ∀ a, (![b * 128, n * 128] : Fin 2 → Nat) a + S128x128.size a ≤ S512x16384.size a := by
  intro a
  match a with
  | 0 => show b * 128 + 128 ≤ 512; omega
  | 1 => show n * 128 + 128 ≤ 16384; omega

theorem xoff_inb (c : Nat) (hc : c < 8) :
    ∀ a, (![0, c * 2048] : Fin 2 → Nat) a + S384x2048.size a ≤ S384x16384.size a := by
  intro a
  match a with
  | 0 => show 0 + 384 ≤ 384; omega
  | 1 => show c * 2048 + 2048 ≤ 16384; omega

variable [Facts₀]

/-- One block of the weight tile, widened and scaled. -/
def blkV (w : Vec F S128x128 .fp8e4m3) (s : Elt F .f32) : FVec F S128x128 .bf16 :=
  mulf (extf .bf16 w bitsLt_fp8e4m3_bf16) (truncf .bf16 (broadcast S128x128 s : FVec F S128x128 .f32) bitsLt_bf16_f32)

/-- Sixteen blocks beside one another. -/
def rowV (v0 v1 v2 v3 v4 v5 v6 v7 v8 v9 v10 v11 v12 v13 v14 v15 : FVec F S128x128 .bf16) : FVec F S128x2048 .bf16 :=
  concatenate S128x2048 1 [⟨S128x128, v0⟩, ⟨S128x128, v1⟩, ⟨S128x128, v2⟩, ⟨S128x128, v3⟩, ⟨S128x128, v4⟩, ⟨S128x128, v5⟩, ⟨S128x128, v6⟩, ⟨S128x128, v7⟩, ⟨S128x128, v8⟩, ⟨S128x128, v9⟩, ⟨S128x128, v10⟩, ⟨S128x128, v11⟩, ⟨S128x128, v12⟩, ⟨S128x128, v13⟩, ⟨S128x128, v14⟩, ⟨S128x128, v15⟩] concatenates_S128x128_S128x128_S128x128_S128x128_S128x128_S128x128_S128x128_S128x128_S128x128_S128x128_S128x128_S128x128_S128x128_S128x128_S128x128_S128x128_S128x2048_d1

/-- Four rows of blocks under one another, multiplied into the activations' columns of the same chunk. -/
def chunkV (acc : FVec F S384x512 .f32) (r0 r1 r2 r3 : FVec F S128x2048 .bf16) (x : Vec F S384x2048 .bf16) : FVec F S384x512 .f32 :=
  addf acc (matmul dot_S384x2048_S512x2048_S384x512_1_1_0_0_n_n none x
    (concatenate S512x2048 0 [⟨S128x2048, r0⟩, ⟨S128x2048, r1⟩, ⟨S128x2048, r2⟩, ⟨S128x2048, r3⟩] concatenates_S128x2048_S128x2048_S128x2048_S128x2048_S512x2048_d0)
    (constant S384x512 .f32 0x00000000#32))

/-- The vocabulary entry of each column of grid point `i`'s tile. -/
def colV (i : grid0.Coords) : IVec S384x512 32 :=
  addi (broadcast S384x512 (Scalar.muli (BitVec.ofNat 32 (i 0).val) 512#32)) (iota .tc S384x512 32 [1] iota_S384x512_d1_w32)

/-- The tile's logits, minus infinity past the vocabulary. -/
def zV (i : grid0.Coords) (acc : FVec F S384x512 .f32) : FVec F S384x512 .f32 :=
  select (cmpi .slt (colV i) (broadcast S384x512 16000#32)) acc (broadcast S384x512 (Scalar.ofBits .f32 0xFF800000#32 : F .f32))

/-- A column of row sums or row maxima as a column vector. -/
def colCast (v : FVec F S384 .f32) : FVec F S384x1 .f32 := shapeCast S384x1 v shapeCasts_S384_S384x1

/-- A column vector stored as it is. -/
def same (v : FVec F S384x1 .f32) : FVec F S384x1 .f32 := shapeCast S384x1 v shapeCasts_S384x1_S384x1

/-- The running maximum after a tile. -/
def mV (z : FVec F S384x512 .f32) (m : Vec F S384x1 .f32) : FVec F S384x1 .f32 :=
  maximumf m (colCast (multiReduction .maximumf [1] S384 z 0xFF800000#32 reduces_S384x512_S384 (.inl rfl) rfl))

/-- The running sum of exponentials after a tile. -/
def sV (z : FVec F S384x512 .f32) (m s : Vec F S384x1 .f32) : FVec F S384x1 .f32 :=
  addf (mulf s (exp (subf m (mV z m)))) (colCast (multiReduction .add [1] S384
    (exp (subf z (broadcastTo S384x512 (mV z m) broadcasts_S384x1_S384x512))) 0x00000000#32 reduces_S384x512_S384 (.inl rfl) rfl))

/-- The running sum of the labels' logits after a tile. -/
def lV (i : grid0.Coords) (z : FVec F S384x512 .f32) (l : Vec F S384x1 .f32) (lab : Vec F S384x1 .i32) : FVec F S384x1 .f32 :=
  addf l (colCast (multiReduction .add [1] S384
    (select (cmpi .eq (colV i) (broadcastTo S384x512 (shapeCast S384x1 lab shapeCasts_S384x1_S384x1 : IVec S384x1 32) broadcasts_S384x1_S384x512))
      z (broadcast S384x512 (Scalar.ofBits .f32 0x00000000#32 : F .f32))) 0x00000000#32 reduces_S384x512_S384 (.inl rfl) rfl))

/-- The loss column from the final maximum, sum and label logit. -/
def outV (m s l : Vec F S384x1 .f32) : FVec F S384x1 .f32 :=
  subf (subf (addf m (log s)) l) (broadcast S384x1 (Scalar.ofBits .f32 0x411AE2B0#32 : F .f32))

/-- Is this the first grid point, as the body computes it? -/
def cond1 (i : grid0.Coords) : BitVec 1 :=
  Scalar.cmpi .ne (Scalar.extui (Scalar.cmpi .eq (BitVec.ofNat 32 (i 0).val) 0#32) : BitVec 32) 0#32

/-! ## The steps -/

section Steps

variable (i : grid0.Coords) (arg1 : Memref sig .tc .smem S125x128 .f32) (arg2 : Memref sig .tc .vmem S384x16384 .bf16)
  (arg3 : Memref sig .tc .vmem S512x16384 .fp8e4m3) (arg4 : Memref sig .tc .vmem S384x1 .i32) (arg5 : Memref sig .tc .vmem S384x1 .f32)
  (arg6 : Memref sig .tc .vmem S384x1 .f32) (arg7 : Memref sig .tc .vmem S384x1 .f32) (arg8 : Memref sig .tc .vmem S384x1 .f32)

/-- Load a whole column vector. -/
def ldc {α : Type} {e : EltTy} (arg : Memref sig .tc .vmem S384x1 e) (k : Vec F S384x1 e → KProg F α) : KProg F α :=
  Prog.op (.load arg (Rect.unit (s := S384x1) ![0, 0] S384x1.size inb_S384x1_S384x1_0_0).toLoadRect (View.loadsAt_vmem h_S384x1)) k

/-- Store a whole column vector. -/
def stc {α : Type} (arg : Memref sig .tc .vmem S384x1 .f32) (v : FVec F S384x1 .f32) (k : KProg F α) : KProg F α :=
  Prog.op (.store arg (Rect.unit (s := S384x1) ![0, 0] S384x1.size inb_S384x1_S384x1_0_0) v Finset.univ
    (View.stores_vmem_bits_univ h_S384x1 rfl) (.inl rfl)) fun _ => k

/-- Load block row `b`, block column `n` of the weight tile, then its scale. -/
def blk {α : Type} (b n : Nat) (hb : b < 4) (hn : n < 128) (k : FVec F S128x128 .bf16 → KProg F α) : KProg F α :=
  Prog.op (.load arg3 (Rect.unit (s := S512x16384) ![b * 128, n * 128] S128x128.size (woff_inb b n hb hn)).toLoadRect (View.loadsAt_vmem h_S128x128)) fun w =>
  Prog.op (.load arg1 (Rect.unit (s := S125x128) (soff i b n) S1x1.size (soff_inb i b n hb hn)).toLoadRect
    (View.loadsAt_rect (View.loads_smem_one rfl numel1_S1x1))) fun f =>
  k (blkV w (f (Shape.Idx.first (numel1_S1x1.symm ▸ Nat.one_pos))))

/-- A row of sixteen blocks. -/
def row {α : Type} (c b : Nat) (hc : c < 8) (hb : b < 4) (k : FVec F S128x2048 .bf16 → KProg F α) : KProg F α :=
  blk i arg1 arg3 b (c * 16 + 0) hb (by omega) fun v0 =>
  blk i arg1 arg3 b (c * 16 + 1) hb (by omega) fun v1 =>
  blk i arg1 arg3 b (c * 16 + 2) hb (by omega) fun v2 =>
  blk i arg1 arg3 b (c * 16 + 3) hb (by omega) fun v3 =>
  blk i arg1 arg3 b (c * 16 + 4) hb (by omega) fun v4 =>
  blk i arg1 arg3 b (c * 16 + 5) hb (by omega) fun v5 =>
  blk i arg1 arg3 b (c * 16 + 6) hb (by omega) fun v6 =>
  blk i arg1 arg3 b (c * 16 + 7) hb (by omega) fun v7 =>
  blk i arg1 arg3 b (c * 16 + 8) hb (by omega) fun v8 =>
  blk i arg1 arg3 b (c * 16 + 9) hb (by omega) fun v9 =>
  blk i arg1 arg3 b (c * 16 + 10) hb (by omega) fun v10 =>
  blk i arg1 arg3 b (c * 16 + 11) hb (by omega) fun v11 =>
  blk i arg1 arg3 b (c * 16 + 12) hb (by omega) fun v12 =>
  blk i arg1 arg3 b (c * 16 + 13) hb (by omega) fun v13 =>
  blk i arg1 arg3 b (c * 16 + 14) hb (by omega) fun v14 =>
  blk i arg1 arg3 b (c * 16 + 15) hb (by omega) fun v15 =>
  k (rowV v0 v1 v2 v3 v4 v5 v6 v7 v8 v9 v10 v11 v12 v13 v14 v15)

/-- A chunk of four rows and its product. -/
def chunk {α : Type} (c : Nat) (hc : c < 8) (acc : FVec F S384x512 .f32) (k : FVec F S384x512 .f32 → KProg F α) : KProg F α :=
  row i arg1 arg3 c 0 hc (by omega) fun r0 =>
  row i arg1 arg3 c 1 hc (by omega) fun r1 =>
  row i arg1 arg3 c 2 hc (by omega) fun r2 =>
  row i arg1 arg3 c 3 hc (by omega) fun r3 =>
  Prog.op (.load arg2 (Rect.unit (s := S384x16384) ![0, c * 2048] S384x2048.size (xoff_inb c hc)).toLoadRect (View.loadsAt_vmem h_S384x2048)) fun x =>
  k (chunkV acc r0 r1 r2 r3 x)

/-- The eight chunks. -/
def chunks {α : Type} (k : FVec F S384x512 .f32 → KProg F α) : KProg F α :=
  chunk i arg1 arg2 arg3 0 (by omega) (broadcast S384x512 (Scalar.ofBits .f32 0x00000000#32 : F .f32)) fun a0 =>
  chunk i arg1 arg2 arg3 1 (by omega) a0 fun a1 =>
  chunk i arg1 arg2 arg3 2 (by omega) a1 fun a2 =>
  chunk i arg1 arg2 arg3 3 (by omega) a2 fun a3 =>
  chunk i arg1 arg2 arg3 4 (by omega) a3 fun a4 =>
  chunk i arg1 arg2 arg3 5 (by omega) a4 fun a5 =>
  chunk i arg1 arg2 arg3 6 (by omega) a5 fun a6 =>
  chunk i arg1 arg2 arg3 7 (by omega) a6 fun a7 =>
  k a7

/-- The running values set at the first grid point. -/
def initS (k : KProg F PUnit) : KProg F PUnit :=
  ldc arg6 fun _ => stc arg6 (same (broadcast S384x1 (Scalar.ofBits .f32 0xFF800000#32 : F .f32))) <|
  ldc arg7 fun _ => stc arg7 (same (broadcast S384x1 (Scalar.ofBits .f32 0x00000000#32 : F .f32))) <|
  ldc arg8 fun _ => stc arg8 (same (broadcast S384x1 (Scalar.ofBits .f32 0x00000000#32 : F .f32))) k

/-- The loss stored at the last grid point. -/
def lastS (k : KProg F PUnit) : KProg F PUnit :=
  ldc arg6 fun m => ldc arg7 fun s => ldc arg8 fun l => ldc arg5 fun _ => stc arg5 (outV m s l) k

/-- A tile's logits, the running values from them, and the loss at the end. -/
def tileS (k : KProg F PUnit) : KProg F PUnit :=
  chunks i arg1 arg2 arg3 fun acc =>
  ldc arg6 fun m => ldc arg7 fun s =>
  ldc arg7 fun _ => stc arg7 (same (sV (zV i acc) m s)) <|
  ldc arg6 fun _ => stc arg6 (same (mV (zV i acc) m)) <|
  ldc arg8 fun l => ldc arg4 fun lab =>
  ldc arg8 fun _ => stc arg8 (same (lV i (zV i acc) l lab)) <| k

/-- The whole body. -/
def body : KProg F PUnit :=
  if cond1 i = 1#1 then initS arg6 arg7 arg8 (tileS i arg1 arg2 arg3 arg4 arg6 arg7 arg8 (if k0_cond2 i = 1#1 then lastS arg5 arg6 arg7 arg8 (Prog.ret ⟨⟩) else Prog.ret ⟨⟩))
  else tileS i arg1 arg2 arg3 arg4 arg6 arg7 arg8 (if k0_cond2 i = 1#1 then lastS arg5 arg6 arg7 arg8 (Prog.ret ⟨⟩) else Prog.ret ⟨⟩)

end Steps

/-! ## The printed body is this program -/

section Eq

variable (i : grid0.Coords) (arg1 : Memref sig .tc .smem S125x128 .f32) (harg1 : arg1.IsWhole)
  (arg2 : Memref sig .tc .vmem S384x16384 .bf16) (harg2 : arg2.IsWhole)
  (arg3 : Memref sig .tc .vmem S512x16384 .fp8e4m3) (harg3 : arg3.IsWhole)
  (arg4 : Memref sig .tc .vmem S384x1 .i32) (harg4 : arg4.IsWhole)
  (arg5 : Memref sig .tc .vmem S384x1 .f32) (harg5 : arg5.IsWhole)
  (arg6 : Memref sig .tc .vmem S384x1 .f32) (harg6 : arg6.IsWhole)
  (arg7 : Memref sig .tc .vmem S384x1 .f32) (harg7 : arg7.IsWhole)
  (arg8 : Memref sig .tc .vmem S384x1 .f32) (harg8 : arg8.IsWhole)

/-- The values the first printed part hands on. -/
abbrev Part1 (F : FTy → Type) : Type := Σ' (_ : BitVec 32) (_ : FVec F S384x512 .f32) (_ : BitVec 32) (_ : FVec F S128x128 .bf16)
  (_ : FVec F S128x128 .bf16) (_ : FVec F S128x128 .bf16) (_ : FVec F S128x128 .bf16), FVec F S128x128 .bf16

/-- The first printed part after its conditional. -/
def rest1 : KProg F (Part1 F) :=
  blk i arg1 arg3 0 0 (by omega) (by omega) fun v13 => blk i arg1 arg3 0 1 (by omega) (by omega) fun v20 =>
  blk i arg1 arg3 0 2 (by omega) (by omega) fun v27 => blk i arg1 arg3 0 3 (by omega) (by omega) fun v34 =>
  Prog.op (.load arg3 (Rect.unit (s := S512x16384) ![0, 512] S128x128.size inb_S512x16384_S128x128_0_512).toLoadRect (View.loadsAt_vmem h_S128x128)) fun (w : Vec F S128x128 .fp8e4m3) =>
  Prog.ret ⟨BitVec.ofNat 32 (i 0).val, broadcast S384x512 (Scalar.ofBits .f32 0x00000000#32 : F .f32), srow i 0, v13, v20, v27, v34,
    extf .bf16 w bitsLt_fp8e4m3_bf16⟩

/-- The conditional as a program of its own. -/
def init1 : KProg F PUnit := if cond1 i = 1#1 then initS arg6 arg7 arg8 (Prog.ret ⟨⟩) else Prog.ret ⟨⟩

theorem part1_eq : k0_part1 i arg1 harg1 arg2 harg2 arg3 harg3 arg4 harg4 arg5 harg5 arg6 harg6 arg7 harg7 arg8 harg8
    = (Prog.bind (init1 i arg6 arg7 arg8) fun _ => rest1 i arg1 arg3 : KProg F (Part1 F)) := by
  refine Eq.trans (b := (if cond1 i = 1#1 then (Prog.bind (initS arg6 arg7 arg8 (Prog.ret ⟨⟩)) fun _ => rest1 i arg1 arg3) else rest1 i arg1 arg3 : KProg F (Part1 F))) ?_ ?_
  · chain_rfl
  · unfold init1
    by_cases h : cond1 i = 1#1
    · rw [if_pos h, if_pos h]
    · rw [if_neg h, if_neg h]
      chain_rfl

set_option maxRecDepth 100000 in
/-- The printed body: the conditional, then the tile. -/
theorem body_eq : cc0_loss i arg1 harg1 arg2 harg2 arg3 harg3 arg4 harg4 arg5 harg5 arg6 harg6 arg7 harg7 arg8 harg8
    = (Prog.bind (init1 i arg6 arg7 arg8) fun _ => tileS i arg1 arg2 arg3 arg4 arg6 arg7 arg8
          (if k0_cond2 i = 1#1 then lastS arg5 arg6 arg7 arg8 (Prog.ret ⟨⟩) else Prog.ret ⟨⟩) : KProg F PUnit) := by
  unfold cc0_loss k0_part92
  rw [part1_eq]
  refine (Prog.bind_assoc _ _ _).trans ?_
  refine (Prog.bind_assoc _ _ _).trans ?_
  refine congrArg (Prog.bind _) (funext fun _ => ?_)
  chain_rfl

end Eq

end Cert.Loss.Hand
-- ==== Proof.Loss.Steps.lean ====
/- What each step of the loss kernel's body does to the buffers it is given: loads read, stores overwrite. -/
module

public import proofs.«01_k».proof.Proof.Loss.Body
public import proofs.«01_k».proof.Proof.Gen.Loss.Frame
public import Idealize.ShloMosaic.Lib.Pipeline.FrameBody
public import Idealize.ShloMosaic.Lib.VecWindow

@[expose] public section

set_option synthInstance.maxSize 4096

noncomputable section

namespace Cert.Loss.Hand

open Cert.Loss Cert.Loss.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Running a program of the body on core `c`. -/
abbrev run {α : Type} (c : Dev nD) (E : Set ℕ) (p : KProg F α) (K : α → sProp 𝕄) : sProp 𝕄 :=
  wp frame (wpE (defs₀ (F := F)) Variants.none (c : Thread nD τ) none) E p K

variable (c : Dev nD) (E : Set ℕ)

/-- A load of a buffer held at `X` goes on with what the rectangle reads of `X`. -/
theorem run_load {α : Type} {sp : CoreSpace} {s : Shape} {e : EltTy} {m : Memref sig .tc sp s e} {r : Rect s} {hl : m.view.LoadsAt r}
    {k : (r.shape.Idx → Elt F e) → KProg F α} {X : s.Idx → Elt F e} {K : α → sProp 𝕄} {P : sProp 𝕄}
    (hP : P ⊢ iprop(owns (c : Thread nD τ) m fullShare X ∗ (owns (c : Thread nD τ) m fullShare X -∗ P)))
    (h : P ⊢ run c E (k (View.ld X r)) K) : P ⊢ run c E (Prog.op (.load m r hl) k) K := by
  refine hP.trans ?_
  unfold owns
  iintro ⟨⟨%f, %hf, H⟩, Hk⟩
  subst hf
  iapply (wp_load (defs := defs₀ (F := F)) Variants.none (c : Thread nD τ) none E (hl := hl) (k := k) (Q := K)
    (m := m) (r := r) (f := f) (q := fullShare) (S := m.view.set) (View.setOn_subset_set _ _)) $$ H
  iintro H
  iapply h
  iapply Hk
  iexists f
  isplitr
  · ipureintro; rfl
  · iexact H

/-- A store over a whole buffer leaves it holding what was stored. -/
theorem run_store {α : Type} {m : Memref sig .tc .vmem S384x1 .f32} {v : FVec F S384x1 .f32}
    {k : KProg F α} {X : S384x1.Idx → Elt F .f32} {K : α → sProp 𝕄} {P P' : sProp 𝕄}
    (hP : P ⊢ iprop(owns (c : Thread nD τ) m fullShare X ∗ (owns (c : Thread nD τ) m fullShare v -∗ P')))
    (h : P' ⊢ run c E k K) : P ⊢ run c E (stc m v k) K := by
  refine hP.trans ?_
  unfold owns stc
  iintro ⟨⟨%f, %hf, H⟩, Hk⟩
  iapply (wp_store (defs := defs₀ (F := F)) Variants.none (c : Thread nD τ) none E (k := fun _ => k) (Q := K)
    (m := m) (r := Rect.unit (s := S384x1) ![0, 0] S384x1.size inb_S384x1_S384x1_0_0) (w := v) (Mk := Finset.univ) (f := f) (S := m.view.set)
    ((View.setOn_subset_set _ _).trans (View.set_slice_subset _ _))) $$ H
  iintro H
  iapply h
  iapply Hk
  iexists _
  isplitr
  rotate_left
  · iexact H
  · ipureintro
    exact View.read_writes_full m.view f inb_S384x1_S384x1_0_0 v []

/-! ## The buffers the body is given -/

section Held

variable (arg1 : Memref sig .tc .smem S125x128 .f32)
  (arg2 : Memref sig .tc .vmem S384x16384 .bf16)
  (arg3 : Memref sig .tc .vmem S512x16384 .fp8e4m3)
  (arg4 : Memref sig .tc .vmem S384x1 .i32)
  (arg5 : Memref sig .tc .vmem S384x1 .f32)
  (arg6 : Memref sig .tc .vmem S384x1 .f32)
  (arg7 : Memref sig .tc .vmem S384x1 .f32)
  (arg8 : Memref sig .tc .vmem S384x1 .f32)
variable (i : grid0.Coords) (X1 : Vec F S125x128 .f32)
  (X2 : Vec F S384x16384 .bf16)
  (X3 : Vec F S512x16384 .fp8e4m3)
  (X4 : Vec F S384x1 .i32)
  (X5 : Vec F S384x1 .f32)
  (M : Vec F S384x1 .f32)
  (S : Vec F S384x1 .f32)
  (L : Vec F S384x1 .f32)

/-- The eight buffers at given contents, and whatever else is held. -/
def held (R : sProp 𝕄) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare M ∗ owns (c : Thread nD τ) arg7 fullShare S ∗ owns (c : Thread nD τ) arg8 fullShare L ∗ R)

variable {arg1 arg2 arg3 arg4 arg5 arg6 arg7 arg8} {X1 X2 X3 X4 X5 M S L}

theorem has1 {R : sProp 𝕄} : held c arg1 arg2 arg3 arg4 arg5 arg6 arg7 arg8 X1 X2 X3 X4 X5 M S L R ⊢ iprop(owns (c : Thread nD τ) arg1 fullShare X1 ∗ (owns (c : Thread nD τ) arg1 fullShare X1 -∗ held c arg1 arg2 arg3 arg4 arg5 arg6 arg7 arg8 X1 X2 X3 X4 X5 M S L R)) := by
  unfold held
  iintro ⟨H1, H2, H3, H4, H5, H6, H7, H8, HR⟩
  isplitl [H1]
  · iexact H1
  · iintro H1
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has2 {R : sProp 𝕄} : held c arg1 arg2 arg3 arg4 arg5 arg6 arg7 arg8 X1 X2 X3 X4 X5 M S L R ⊢ iprop(owns (c : Thread nD τ) arg2 fullShare X2 ∗ (owns (c : Thread nD τ) arg2 fullShare X2 -∗ held c arg1 arg2 arg3 arg4 arg5 arg6 arg7 arg8 X1 X2 X3 X4 X5 M S L R)) := by
  unfold held
  iintro ⟨H1, H2, H3, H4, H5, H6, H7, H8, HR⟩
  isplitl [H2]
  · iexact H2
  · iintro H2
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has3 {R : sProp 𝕄} : held c arg1 arg2 arg3 arg4 arg5 arg6 arg7 arg8 X1 X2 X3 X4 X5 M S L R ⊢ iprop(owns (c : Thread nD τ) arg3 fullShare X3 ∗ (owns (c : Thread nD τ) arg3 fullShare X3 -∗ held c arg1 arg2 arg3 arg4 arg5 arg6 arg7 arg8 X1 X2 X3 X4 X5 M S L R)) := by
  unfold held
  iintro ⟨H1, H2, H3, H4, H5, H6, H7, H8, HR⟩
  isplitl [H3]
  · iexact H3
  · iintro H3
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has4 {R : sProp 𝕄} : held c arg1 arg2 arg3 arg4 arg5 arg6 arg7 arg8 X1 X2 X3 X4 X5 M S L R ⊢ iprop(owns (c : Thread nD τ) arg4 fullShare X4 ∗ (owns (c : Thread nD τ) arg4 fullShare X4 -∗ held c arg1 arg2 arg3 arg4 arg5 arg6 arg7 arg8 X1 X2 X3 X4 X5 M S L R)) := by
  unfold held
  iintro ⟨H1, H2, H3, H4, H5, H6, H7, H8, HR⟩
  isplitl [H4]
  · iexact H4
  · iintro H4
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has5 {R : sProp 𝕄} : held c arg1 arg2 arg3 arg4 arg5 arg6 arg7 arg8 X1 X2 X3 X4 X5 M S L R ⊢ iprop(owns (c : Thread nD τ) arg5 fullShare X5 ∗ (owns (c : Thread nD τ) arg5 fullShare X5 -∗ held c arg1 arg2 arg3 arg4 arg5 arg6 arg7 arg8 X1 X2 X3 X4 X5 M S L R)) := by
  unfold held
  iintro ⟨H1, H2, H3, H4, H5, H6, H7, H8, HR⟩
  isplitl [H5]
  · iexact H5
  · iintro H5
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has6 {R : sProp 𝕄} : held c arg1 arg2 arg3 arg4 arg5 arg6 arg7 arg8 X1 X2 X3 X4 X5 M S L R ⊢ iprop(owns (c : Thread nD τ) arg6 fullShare M ∗ (owns (c : Thread nD τ) arg6 fullShare M -∗ held c arg1 arg2 arg3 arg4 arg5 arg6 arg7 arg8 X1 X2 X3 X4 X5 M S L R)) := by
  unfold held
  iintro ⟨H1, H2, H3, H4, H5, H6, H7, H8, HR⟩
  isplitl [H6]
  · iexact H6
  · iintro H6
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has7 {R : sProp 𝕄} : held c arg1 arg2 arg3 arg4 arg5 arg6 arg7 arg8 X1 X2 X3 X4 X5 M S L R ⊢ iprop(owns (c : Thread nD τ) arg7 fullShare S ∗ (owns (c : Thread nD τ) arg7 fullShare S -∗ held c arg1 arg2 arg3 arg4 arg5 arg6 arg7 arg8 X1 X2 X3 X4 X5 M S L R)) := by
  unfold held
  iintro ⟨H1, H2, H3, H4, H5, H6, H7, H8, HR⟩
  isplitl [H7]
  · iexact H7
  · iintro H7
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has8 {R : sProp 𝕄} : held c arg1 arg2 arg3 arg4 arg5 arg6 arg7 arg8 X1 X2 X3 X4 X5 M S L R ⊢ iprop(owns (c : Thread nD τ) arg8 fullShare L ∗ (owns (c : Thread nD τ) arg8 fullShare L -∗ held c arg1 arg2 arg3 arg4 arg5 arg6 arg7 arg8 X1 X2 X3 X4 X5 M S L R)) := by
  unfold held
  iintro ⟨H1, H2, H3, H4, H5, H6, H7, H8, HR⟩
  isplitl [H8]
  · iexact H8
  · iintro H8
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts5 {R : sProp 𝕄} (v : FVec F S384x1 .f32) : held c arg1 arg2 arg3 arg4 arg5 arg6 arg7 arg8 X1 X2 X3 X4 X5 M S L R ⊢ iprop(owns (c : Thread nD τ) arg5 fullShare X5 ∗ (owns (c : Thread nD τ) arg5 fullShare v -∗ held c arg1 arg2 arg3 arg4 arg5 arg6 arg7 arg8 X1 X2 X3 X4 v M S L R)) := by
  unfold held
  iintro ⟨H1, H2, H3, H4, H5, H6, H7, H8, HR⟩
  isplitl [H5]
  · iexact H5
  · iintro H5
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts6 {R : sProp 𝕄} (v : FVec F S384x1 .f32) : held c arg1 arg2 arg3 arg4 arg5 arg6 arg7 arg8 X1 X2 X3 X4 X5 M S L R ⊢ iprop(owns (c : Thread nD τ) arg6 fullShare M ∗ (owns (c : Thread nD τ) arg6 fullShare v -∗ held c arg1 arg2 arg3 arg4 arg5 arg6 arg7 arg8 X1 X2 X3 X4 X5 v S L R)) := by
  unfold held
  iintro ⟨H1, H2, H3, H4, H5, H6, H7, H8, HR⟩
  isplitl [H6]
  · iexact H6
  · iintro H6
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts7 {R : sProp 𝕄} (v : FVec F S384x1 .f32) : held c arg1 arg2 arg3 arg4 arg5 arg6 arg7 arg8 X1 X2 X3 X4 X5 M S L R ⊢ iprop(owns (c : Thread nD τ) arg7 fullShare S ∗ (owns (c : Thread nD τ) arg7 fullShare v -∗ held c arg1 arg2 arg3 arg4 arg5 arg6 arg7 arg8 X1 X2 X3 X4 X5 M v L R)) := by
  unfold held
  iintro ⟨H1, H2, H3, H4, H5, H6, H7, H8, HR⟩
  isplitl [H7]
  · iexact H7
  · iintro H7
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts8 {R : sProp 𝕄} (v : FVec F S384x1 .f32) : held c arg1 arg2 arg3 arg4 arg5 arg6 arg7 arg8 X1 X2 X3 X4 X5 M S L R ⊢ iprop(owns (c : Thread nD τ) arg8 fullShare L ∗ (owns (c : Thread nD τ) arg8 fullShare v -∗ held c arg1 arg2 arg3 arg4 arg5 arg6 arg7 arg8 X1 X2 X3 X4 X5 M S v R)) := by
  unfold held
  iintro ⟨H1, H2, H3, H4, H5, H6, H7, H8, HR⟩
  isplitl [H8]
  · iexact H8
  · iintro H8
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

/-- A load of a whole column vector reads it. -/
theorem ld_col {e : EltTy} (X : Vec F S384x1 e) :
    View.ld X (Rect.unit (s := S384x1) ![0, 0] S384x1.size inb_S384x1_S384x1_0_0) = X := by
  funext x
  refine congrArg X (funext fun a => Fin.ext ?_)
  match a with
  | 0 => show 0 + 1 * (x 0).val = (x 0).val; omega
  | 1 => show 0 + 1 * (x 1).val = (x 1).val; omega

theorem run_ldc {α : Type} {e : EltTy} {m : Memref sig .tc .vmem S384x1 e} {k : Vec F S384x1 e → KProg F α} {X : Vec F S384x1 e}
    {K : α → sProp 𝕄} {P : sProp 𝕄}
    (hP : P ⊢ iprop(owns (c : Thread nD τ) m fullShare X ∗ (owns (c : Thread nD τ) m fullShare X -∗ P)))
    (h : P ⊢ run c E (k X) K) : P ⊢ run c E (ldc m k) K := by
  unfold ldc
  refine run_load c E hP ?_
  rw [ld_col]
  exact h

/-! ## What the loads compute -/

/-- The scaled block at block row `b`, block column `n`. -/
def blkAt (i : grid0.Coords) (X1 : Vec F S125x128 .f32) (X3 : Vec F S512x16384 .fp8e4m3) (b n : Nat) (hb : b < 4) (hn : n < 128) : FVec F S128x128 .bf16 :=
  blkV (View.ld X3 (Rect.unit (s := S512x16384) ![b * 128, n * 128] S128x128.size (woff_inb b n hb hn)))
    (View.ld X1 (Rect.unit (s := S125x128) (soff i b n) S1x1.size (soff_inb i b n hb hn))
      (Shape.Idx.first (numel1_S1x1.symm ▸ Nat.one_pos)))

/-- Row `b` of chunk `cc`. -/
def rowAt (i : grid0.Coords) (X1 : Vec F S125x128 .f32) (X3 : Vec F S512x16384 .fp8e4m3) (cc b : Nat) (hc : cc < 8) (hb : b < 4) : FVec F S128x2048 .bf16 :=
  rowV (blkAt i X1 X3 b (cc * 16 + 0) hb (by omega))
    (blkAt i X1 X3 b (cc * 16 + 1) hb (by omega))
    (blkAt i X1 X3 b (cc * 16 + 2) hb (by omega))
    (blkAt i X1 X3 b (cc * 16 + 3) hb (by omega))
    (blkAt i X1 X3 b (cc * 16 + 4) hb (by omega))
    (blkAt i X1 X3 b (cc * 16 + 5) hb (by omega))
    (blkAt i X1 X3 b (cc * 16 + 6) hb (by omega))
    (blkAt i X1 X3 b (cc * 16 + 7) hb (by omega))
    (blkAt i X1 X3 b (cc * 16 + 8) hb (by omega))
    (blkAt i X1 X3 b (cc * 16 + 9) hb (by omega))
    (blkAt i X1 X3 b (cc * 16 + 10) hb (by omega))
    (blkAt i X1 X3 b (cc * 16 + 11) hb (by omega))
    (blkAt i X1 X3 b (cc * 16 + 12) hb (by omega))
    (blkAt i X1 X3 b (cc * 16 + 13) hb (by omega))
    (blkAt i X1 X3 b (cc * 16 + 14) hb (by omega))
    (blkAt i X1 X3 b (cc * 16 + 15) hb (by omega))

/-- Chunk `cc` added to the running product. -/
def chunkAt (i : grid0.Coords) (X1 : Vec F S125x128 .f32) (X2 : Vec F S384x16384 .bf16) (X3 : Vec F S512x16384 .fp8e4m3)
    (cc : Nat) (hc : cc < 8) (acc : FVec F S384x512 .f32) : FVec F S384x512 .f32 :=
  chunkV acc (rowAt i X1 X3 cc 0 hc (by omega)) (rowAt i X1 X3 cc 1 hc (by omega)) (rowAt i X1 X3 cc 2 hc (by omega))
    (rowAt i X1 X3 cc 3 hc (by omega))
    (View.ld X2 (Rect.unit (s := S384x16384) ![0, cc * 2048] S384x2048.size (xoff_inb cc hc)))

/-- The tile's product after the first `n` chunks. -/
def accAt (i : grid0.Coords) (X1 : Vec F S125x128 .f32) (X2 : Vec F S384x16384 .bf16) (X3 : Vec F S512x16384 .fp8e4m3) :
    (n : Nat) → n ≤ 8 → FVec F S384x512 .f32
  | 0, _ => broadcast S384x512 (Scalar.ofBits .f32 0x00000000#32 : F .f32)
  | n + 1, h => chunkAt i X1 X2 X3 n (by omega) (accAt i X1 X2 X3 n (by omega))

/-- The tile's logits. -/
def zAt (i : grid0.Coords) (X1 : Vec F S125x128 .f32) (X2 : Vec F S384x16384 .bf16) (X3 : Vec F S512x16384 .fp8e4m3) : FVec F S384x512 .f32 :=
  zV i (accAt i X1 X2 X3 8 (le_refl _))

theorem run_blk {α : Type} {R : sProp 𝕄} (b n : Nat) (hb : b < 4) (hn : n < 128) (k : FVec F S128x128 .bf16 → KProg F α) (K : α → sProp 𝕄)
    (h : held c arg1 arg2 arg3 arg4 arg5 arg6 arg7 arg8 X1 X2 X3 X4 X5 M S L R ⊢ run c E (k (blkAt i X1 X3 b n hb hn)) K) :
    held c arg1 arg2 arg3 arg4 arg5 arg6 arg7 arg8 X1 X2 X3 X4 X5 M S L R ⊢ run c E (blk i arg1 arg3 b n hb hn k) K :=
  run_load c E (has3 c) (run_load c E (has1 c) h)

theorem run_row {α : Type} {R : sProp 𝕄} (cc b : Nat) (hc : cc < 8) (hb : b < 4) (k : FVec F S128x2048 .bf16 → KProg F α) (K : α → sProp 𝕄)
    (h : held c arg1 arg2 arg3 arg4 arg5 arg6 arg7 arg8 X1 X2 X3 X4 X5 M S L R ⊢ run c E (k (rowAt i X1 X3 cc b hc hb)) K) :
    held c arg1 arg2 arg3 arg4 arg5 arg6 arg7 arg8 X1 X2 X3 X4 X5 M S L R ⊢ run c E (row i arg1 arg3 cc b hc hb k) K := by
  unfold row
  iterate 16 refine run_blk c E i _ _ _ _ _ _ ?_
  exact h

theorem run_chunk {α : Type} {R : sProp 𝕄} (cc : Nat) (hc : cc < 8) (acc : FVec F S384x512 .f32) (k : FVec F S384x512 .f32 → KProg F α) (K : α → sProp 𝕄)
    (h : held c arg1 arg2 arg3 arg4 arg5 arg6 arg7 arg8 X1 X2 X3 X4 X5 M S L R ⊢ run c E (k (chunkAt i X1 X2 X3 cc hc acc)) K) :
    held c arg1 arg2 arg3 arg4 arg5 arg6 arg7 arg8 X1 X2 X3 X4 X5 M S L R ⊢ run c E (chunk i arg1 arg2 arg3 cc hc acc k) K := by
  unfold chunk
  iterate 4 refine run_row c E i _ _ _ _ _ _ ?_
  exact run_load c E (has2 c) h

theorem run_chunks {α : Type} {R : sProp 𝕄} (k : FVec F S384x512 .f32 → KProg F α) (K : α → sProp 𝕄)
    (h : held c arg1 arg2 arg3 arg4 arg5 arg6 arg7 arg8 X1 X2 X3 X4 X5 M S L R ⊢ run c E (k (accAt i X1 X2 X3 8 (le_refl _))) K) :
    held c arg1 arg2 arg3 arg4 arg5 arg6 arg7 arg8 X1 X2 X3 X4 X5 M S L R ⊢ run c E (chunks i arg1 arg2 arg3 k) K := by
  unfold chunks
  iterate 8 refine run_chunk c E i _ _ _ _ _ ?_
  exact h

/-- The tile updates the running values. -/
theorem run_tile {R : sProp 𝕄} (k : KProg F PUnit) (K : PUnit → sProp 𝕄)
    (h : held c arg1 arg2 arg3 arg4 arg5 arg6 arg7 arg8 X1 X2 X3 X4 X5 (same (mV (zAt i X1 X2 X3) M)) (same (sV (zAt i X1 X2 X3) M S)) (same (lV i (zAt i X1 X2 X3) L X4)) R ⊢ run c E k K) :
    held c arg1 arg2 arg3 arg4 arg5 arg6 arg7 arg8 X1 X2 X3 X4 X5 M S L R ⊢ run c E (tileS i arg1 arg2 arg3 arg4 arg6 arg7 arg8 k) K := by
  unfold tileS
  refine run_chunks c E i _ _ ?_
  refine run_ldc c E (has6 c) ?_
  refine run_ldc c E (has7 c) ?_
  refine run_ldc c E (has7 c) ?_
  refine run_store c E (puts7 c _) ?_
  refine run_ldc c E (has6 c) ?_
  refine run_store c E (puts6 c _) ?_
  refine run_ldc c E (has8 c) ?_
  refine run_ldc c E (has4 c) ?_
  refine run_ldc c E (has8 c) ?_
  exact run_store c E (puts8 c _) h

/-- The running values before the first tile. -/
def m0 : FVec F S384x1 .f32 := same (broadcast S384x1 (Scalar.ofBits .f32 0xFF800000#32 : F .f32))
def z0 : FVec F S384x1 .f32 := same (broadcast S384x1 (Scalar.ofBits .f32 0x00000000#32 : F .f32))

theorem run_init {R : sProp 𝕄} (k : KProg F PUnit) (K : PUnit → sProp 𝕄)
    (h : held c arg1 arg2 arg3 arg4 arg5 arg6 arg7 arg8 X1 X2 X3 X4 X5 m0 z0 z0 R ⊢ run c E k K) :
    held c arg1 arg2 arg3 arg4 arg5 arg6 arg7 arg8 X1 X2 X3 X4 X5 M S L R ⊢ run c E (initS arg6 arg7 arg8 k) K := by
  unfold initS
  refine run_ldc c E (has6 c) ?_
  refine run_store c E (puts6 c _) ?_
  refine run_ldc c E (has7 c) ?_
  refine run_store c E (puts7 c _) ?_
  refine run_ldc c E (has8 c) ?_
  exact run_store c E (puts8 c _) h

theorem run_last {R : sProp 𝕄} (k : KProg F PUnit) (K : PUnit → sProp 𝕄)
    (h : held c arg1 arg2 arg3 arg4 arg5 arg6 arg7 arg8 X1 X2 X3 X4 (outV M S L) M S L R ⊢ run c E k K) :
    held c arg1 arg2 arg3 arg4 arg5 arg6 arg7 arg8 X1 X2 X3 X4 X5 M S L R ⊢ run c E (lastS arg5 arg6 arg7 arg8 k) K := by
  unfold lastS
  refine run_ldc c E (has6 c) ?_
  refine run_ldc c E (has7 c) ?_
  refine run_ldc c E (has8 c) ?_
  refine run_ldc c E (has5 c) ?_
  exact run_store c E (puts5 c _) h

/-- The running values as grid point `i` finds them, reset at the first point. -/
def mIn (i : grid0.Coords) (M : Vec F S384x1 .f32) : Vec F S384x1 .f32 := if cond1 i = 1#1 then m0 else M
def zIn (i : grid0.Coords) (S : Vec F S384x1 .f32) : Vec F S384x1 .f32 := if cond1 i = 1#1 then z0 else S

/-- The running values after grid point `i`. -/
def mOut (i : grid0.Coords) (X1 : Vec F S125x128 .f32) (X2 : Vec F S384x16384 .bf16) (X3 : Vec F S512x16384 .fp8e4m3) (M : Vec F S384x1 .f32) : Vec F S384x1 .f32 :=
  same (mV (zAt i X1 X2 X3) (mIn i M))
def sOut (i : grid0.Coords) (X1 : Vec F S125x128 .f32) (X2 : Vec F S384x16384 .bf16) (X3 : Vec F S512x16384 .fp8e4m3) (M S : Vec F S384x1 .f32) : Vec F S384x1 .f32 :=
  same (sV (zAt i X1 X2 X3) (mIn i M) (zIn i S))
def lOut (i : grid0.Coords) (X1 : Vec F S125x128 .f32) (X2 : Vec F S384x16384 .bf16) (X3 : Vec F S512x16384 .fp8e4m3) (L : Vec F S384x1 .f32) (X4 : Vec F S384x1 .i32) : Vec F S384x1 .f32 :=
  same (lV i (zAt i X1 X2 X3) (zIn i L) X4)

/-- The output buffer after grid point `i`: the loss at the last point, untouched before. -/
def oOut (i : grid0.Coords) (X5 M S L : Vec F S384x1 .f32) : Vec F S384x1 .f32 := if k0_cond2 i = 1#1 then outV M S L else X5

/-- The whole body at grid point `i`. -/
theorem run_body {R : sProp 𝕄} (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (K : PUnit → sProp 𝕄)
    (h : held c arg1 arg2 arg3 arg4 arg5 arg6 arg7 arg8 X1 X2 X3 X4
        (oOut i X5 (mOut i X1 X2 X3 M) (sOut i X1 X2 X3 M S) (lOut i X1 X2 X3 L X4))
        (mOut i X1 X2 X3 M) (sOut i X1 X2 X3 M S) (lOut i X1 X2 X3 L X4) R ⊢ K ⟨⟩) :
    held c arg1 arg2 arg3 arg4 arg5 arg6 arg7 arg8 X1 X2 X3 X4 X5 M S L R ⊢ run c E (cc0_loss i arg1 harg1 arg2 harg2 arg3 harg3 arg4 harg4 arg5 harg5 arg6 harg6 arg7 harg7 arg8 harg8) K := by
  rw [body_eq]
  have h2 : held c arg1 arg2 arg3 arg4 arg5 arg6 arg7 arg8 X1 X2 X3 X4 X5 (mOut i X1 X2 X3 M) (sOut i X1 X2 X3 M S) (lOut i X1 X2 X3 L X4) R
      ⊢ run c E (if k0_cond2 i = 1#1 then lastS arg5 arg6 arg7 arg8 (Prog.ret ⟨⟩) else Prog.ret ⟨⟩) K := by
    unfold oOut at h
    by_cases h2 : k0_cond2 i = 1#1
    · rw [if_pos h2] at h ⊢
      exact run_last c E _ _ (h.trans (le_wp_ret _ _ _ _ _))
    · rw [if_neg h2] at h ⊢
      exact h.trans (le_wp_ret _ _ _ _ _)
  unfold mOut sOut lOut mIn zIn at h2
  unfold init1
  by_cases h1 : cond1 i = 1#1
  · simp only [if_pos h1] at h2
    rw [if_pos h1]
    exact run_init c E _ _ (run_tile c E i _ _ h2)
  · simp only [if_neg h1] at h2
    rw [if_neg h1]
    exact run_tile c E i _ _ h2

end Held

end Cert.Loss.Hand
-- ==== Proof.Loss.Run.lean ====
/- The loss kernel's run: what its scratch buffers carry from one grid point to the next, the body's obligation at a
   grid point, and the launch. `Inv` is what is known of the scratch before a point; `Out` what is known of the
   result's buffer after one. -/
module

public import proofs.«01_k».proof.Proof.Loss.Steps

@[expose] public section

set_option synthInstance.maxSize 4096
set_option maxRecDepth 16384

noncomputable section

namespace Cert.Loss.Hand

open Cert.Loss Cert.Loss.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig Unit (Elt F) ℕ (UR sig nD τ) ℕ
/-- A column of 384 values. -/
abbrev Col (F : FTy → Type) := Vec F S384x1 EltTy.f32

variable (m : (ℓ : Loc nD τ sig) → Buf (Elt F) ℓ) (ρ : Dev nD → PrngReg)

/-- The weight tile as the kernel finds it: the rows inside the array, `d` on the rows beyond it. -/
abbrev wTile (c : Dev nD) (t : Fin cfg0.N) (d : Vec F S512x16384 .fp8e4m3) : Vec F S512x16384 .fp8e4m3 :=
  win0_2.fill (grid0.coords t) d (iblk m c 2 t)

/-- Rows nothing names. -/
def anyTile : Vec F S512x16384 .fp8e4m3 := fun _ => Classical.arbitrary _

variable (Inv : Dev nD → ℕ → Col F → Col F → Col F → Prop) (O : Dev nD → Col F)

/-- The scratch buffers before point `t`, and the generator's register. -/
def carried (c : Dev nD) (t : ℕ) : sProp 𝕄 :=
  iprop(∃ M S L, ⌜Inv c t M S L⌝ ∗ owns (c : Thread nD τ) (Memref.whole cc0_scratch0) fullShare M
    ∗ owns (c : Thread nD τ) (Memref.whole cc0_scratch1) fullShare S
    ∗ owns (c : Thread nD τ) (Memref.whole cc0_scratch2) fullShare L ∗ ∃ r, prngReg c r)

/-- The run's proof data: the arrays as the region finds them, the inputs' buffers left as found, the result's at
    `O`. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => wTile m c t anyTile
    | 3 => iblk m c 3 t
    | 4 => O c
  Φ t := carried Inv c t.val
  q _ := fullShare
  owed _ := 0

theorem before_0 (c : Dev nD) (t : Fin cfg0.N) (d) : (dats m Inv O 0 c).before (0 : Fin 5) t d = iblk m c 0 t :=
  before0_0_of m (dats m Inv O 0 c) rfl (fun _ => rfl) t d
theorem before_1 (c : Dev nD) (t : Fin cfg0.N) (d) : (dats m Inv O 0 c).before (1 : Fin 5) t d = iblk m c 1 t :=
  before0_1_of m (dats m Inv O 0 c) rfl (fun _ => rfl) t d
theorem before_2 (c : Dev nD) (t : Fin cfg0.N) (d) : (dats m Inv O 0 c).before (2 : Fin 5) t d = wTile m c t d := by
  unfold Dat.before; rw [if_pos (fetch0_2 t)]; rfl
theorem before_3 (c : Dev nD) (t : Fin cfg0.N) (d) : (dats m Inv O 0 c).before (3 : Fin 5) t d = iblk m c 3 t :=
  before0_3_of m (dats m Inv O 0 c) rfl (fun _ => rfl) t d

variable (Out : Dev nD → Fin cfg0.N → Col F → Col F → Prop)

/-- What one point does to the knowledge of the scratch and of the result's buffer. -/
def Steps : Prop := ∀ (c : Dev nD) (t : Fin cfg0.N) (d : Vec F S512x16384 .fp8e4m3) (X5 M S L : Col F), Inv c t.val M S L →
  Inv c (t.val + 1) (mOut (grid0.coords t) (iblk m c 0 t) (iblk m c 1 t) (wTile m c t d) M)
    (sOut (grid0.coords t) (iblk m c 0 t) (iblk m c 1 t) (wTile m c t d) M S)
    (lOut (grid0.coords t) (iblk m c 0 t) (iblk m c 1 t) (wTile m c t d) L (iblk m c 3 t))
  ∧ Out c t X5 (oOut (grid0.coords t) X5 (mOut (grid0.coords t) (iblk m c 0 t) (iblk m c 1 t) (wTile m c t d) M)
    (sOut (grid0.coords t) (iblk m c 0 t) (iblk m c 1 t) (wTile m c t d) M S)
    (lOut (grid0.coords t) (iblk m c 0 t) (iblk m c 1 t) (wTile m c t d) L (iblk m c 3 t)))

variable {Inv Out}

/-- One point: from the buffers as found to the buffers as left. -/
theorem point (hs : Steps m Inv Out) (c : Dev nD) (t : Fin cfg0.N) (d : Vec F S512x16384 .fp8e4m3) (X5 : Col F) (R : sProp 𝕄) :
    iprop((dats m Inv O 0 c).Φ t.castSucc ∗ R
      ∗ owns (c : Thread nD τ) (st0_0 t) fullShare (iblk m c 0 t) ∗ owns (c : Thread nD τ) (st0_1 t) fullShare (iblk m c 1 t)
      ∗ owns (c : Thread nD τ) (st0_2 t) fullShare (wTile m c t d) ∗ owns (c : Thread nD τ) (st0_3 t) fullShare (iblk m c 3 t)
      ∗ owns (c : Thread nD τ) (st0_4 t) fullShare X5)
    ⊢ run c Set.univ (bodyAt0 t) fun _ => iprop((dats m Inv O 0 c).Φ t.succ ∗ R
      ∗ owns (c : Thread nD τ) (st0_0 t) fullShare (iblk m c 0 t) ∗ owns (c : Thread nD τ) (st0_1 t) fullShare (iblk m c 1 t)
      ∗ owns (c : Thread nD τ) (st0_2 t) fullShare (wTile m c t d) ∗ owns (c : Thread nD τ) (st0_3 t) fullShare (iblk m c 3 t)
      ∗ ∃ X, ⌜Out c t X5 X⌝ ∗ owns (c : Thread nD τ) (st0_4 t) fullShare X) := by
  rw [show (dats m Inv O 0 c).Φ t.castSucc = carried Inv c t.val from rfl,
    show (dats m Inv O 0 c).Φ t.succ = carried Inv c (t.val + 1) from rfl]
  unfold carried
  iintro ⟨⟨%M, %S, %L, %hI, HM, HS, HL, Hp⟩, HR, H0, H1, H2, H3, H4⟩
  iapply (run_body (R := iprop((∃ r, prngReg c r) ∗ R)) c Set.univ (grid0.coords t) (X1 := iblk m c 0 t) (X2 := iblk m c 1 t) (X3 := wTile m c t d)
    (X4 := iblk m c 3 t) (X5 := X5) (M := M) (S := S) (L := L) _ _ _ _ _ _ _ _ _ ?_)
  · unfold held
    iintro ⟨H0, H1, H2, H3, H4, HM, HS, HL, Hp, HR⟩
    isplitl [HM HS HL Hp]
    · iexists _; iexists _; iexists _
      isplitr
      · ipureintro; exact (hs c t d X5 M S L hI).1
      isplitl [HM]; · iexact HM
      isplitl [HS]; · iexact HS
      isplitl [HL]; · iexact HL
      iexact Hp
    isplitl [HR]; · iexact HR
    isplitl [H0]; · iexact H0
    isplitl [H1]; · iexact H1
    isplitl [H2]; · iexact H2
    isplitl [H3]; · iexact H3
    iexists _
    isplitr
    · ipureintro; exact (hs c t d X5 M S L hI).2
    iexact H4
  · unfold held
    isplitl [H0]; · iexact H0
    isplitl [H1]; · iexact H1
    isplitl [H2]; · iexact H2
    isplitl [H3]; · iexact H3
    isplitl [H4]; · iexact H4
    isplitl [HM]; · iexact HM
    isplitl [HS]; · iexact HS
    isplitl [HL]; · iexact HL
    isplitl [Hp]; · iexact Hp
    iexact HR

/-- The weight buffer handed back: on the rows inside the array, the rows it was filled with. -/
theorem back_2 (c : Dev nD) (t : Fin cfg0.N) (d : Vec F S512x16384 .fp8e4m3) :
    owns (c : Thread nD τ) (st0_2 t) fullShare (wTile m c t d)
      ⊢ (iprop(∃ d, owns (c : Thread nD τ) (st0_2 t) fullShare
          (win0_2.fill (grid0.coords t) d (win0_2.cut (grid0.coords t) ((dats m Inv O 0 c).after (2 : Fin 5) t)))) : sProp 𝕄) := by
  iintro H
  iexists d
  change _ ⊢ owns (c : Thread nD τ) (st0_2 t) fullShare (win0_2.fill (grid0.coords t) d (win0_2.cut (grid0.coords t) (wTile m c t anyTile)))
  rw [win0_2.cut_fill]
  try iexact H

/-- The scratch as the launch hands it over is the scratch before the first point. -/
theorem enter (h0 : ∀ c M S L, Inv c 0 M S L) (c : Dev nD) : Pipeline.ΦA spec0 c ⊢ (dats m Inv O 0 c).Φ 0 := by
  rw [show (dats m Inv O 0 c).Φ 0 = carried Inv c 0 from rfl]
  unfold Pipeline.ΦA carried
  rw [scopedRest0_eq]
  simp only [owns_whole_eq]
  iintro ⟨⟨⟨%f0, H0⟩, ⟨%f1, H1⟩, ⟨%f2, H2⟩⟩, Hp⟩
  iexists f0; iexists f1; iexists f2
  isplitr; · ipureintro; exact h0 _ _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact Hp

/-- After the last point the scratch is given back. -/
theorem leave (c : Dev nD) : (dats m Inv O 0 c).Φ (Fin.last cfg0.N) ⊢ Pipeline.ΦA spec0 c := by
  rw [show (dats m Inv O 0 c).Φ (Fin.last cfg0.N) = carried Inv c cfg0.N from rfl]
  unfold Pipeline.ΦA carried
  rw [scopedRest0_eq]
  simp only [owns_whole_eq]
  iintro ⟨%M, %S, %L, %hI, ⟨%f0, %h0, H0⟩, ⟨%f1, %h1, H1⟩, ⟨%f2, %h2, H2⟩, Hp⟩
  isplitl [H0 H1 H2]
  · isplitl [H0]; · iexists f0; iexact H0
    isplitl [H1]; · iexists f1; iexact H1
    iexists f2; iexact H2
  iexact Hp

end Cert.Loss.Hand

end
-- ==== Proof.Loss.Frame.lean ====
/- The loss kernel's frame at any float values: it runs, its arguments end unchanged, every semaphore ends at zero.
   Nothing is said of the result's buffer here: the weight tile's rows beyond the array reach every column of the
   tile's product at float values nothing is known of. -/
module

public import proofs.«01_k».proof.Proof.Loss.Run

@[expose] public section

set_option synthInstance.maxSize 4096
set_option maxRecDepth 16384

noncomputable section

namespace Cert.Loss.Hand

open Cert.Loss Cert.Loss.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The data of a run of which nothing is said but that it runs. -/
abbrev fdats (p : Fin 1) (c : Dev nD) : Dat τ (Elt F) Unit ℕ (UR sig nD τ) ℕ (cfgs p) c :=
  dats m (fun _ _ _ _ _ => True) (fun _ _ => Classical.arbitrary _) p c

/-- The result's window alone is left unsaid. -/
abbrev unsaid : Fin cfg0.W → Bool := fun | 0 => false | 1 => false | 2 => false | 3 => false | 4 => true | ⟨_ + 5, h⟩ => absurd h (Nat.not_lt.2 (Nat.le_add_left _ _))

theorem obligation (c : Dev nD) : BodyObligationLoose (fdats m 0 c) (defs₀ (F := F)) Variants.none () Set.univ unsaid := fun t => by
  rw [bigSep_W0, bigSep_W0]
  simp only
  rw [show (fdats m 0 c).owesAt () t.succ = (fdats m 0 c).owesAt () t.castSucc from rfl]
  iintro ⟨HΦ, Ho, ⟨%d0, H0⟩, ⟨%d1, H1⟩, ⟨%d2, H2⟩, ⟨%d3, H3⟩, ⟨%X5, H4⟩⟩
  rw [before_0, before_1, before_2, before_3]
  have hp := point m (fun _ _ => Classical.arbitrary _) (Inv := fun _ _ _ _ _ => True) (Out := fun _ _ _ _ => True)
    (fun _ _ _ _ _ _ _ _ => ⟨trivial, trivial⟩) c t d2 X5 ((fdats m 0 c).owesAt () t.castSucc)
  have hpost : ∀ u : PUnit, iprop((fdats m 0 c).Φ t.succ ∗ (fdats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (wTile m c t d2) ∗ owns (c : Thread nD τ) (st0_3 t) fullShare (iblk m c 3 t)
      ∗ ∃ X, ⌜True⌝ ∗ owns (c : Thread nD τ) (st0_4 t) fullShare X)
      ⊢ iprop((fdats m 0 c).Φ t.succ ∗ (fdats m 0 c).owesAt () t.castSucc
      ∗ owns (c : Thread nD τ) (st0_0 t) fullShare (iblk m c 0 t) ∗ owns (c : Thread nD τ) (st0_1 t) fullShare (iblk m c 1 t)
      ∗ (∃ d, owns (c : Thread nD τ) (st0_2 t) fullShare
          (win0_2.fill (grid0.coords t) d (win0_2.cut (grid0.coords t) ((fdats m 0 c).after (2 : Fin 5) t))))
      ∗ owns (c : Thread nD τ) (st0_3 t) fullShare (iblk m c 3 t)
      ∗ ∃ X, owns (c : Thread nD τ) (st0_4 t) fullShare X) := fun _ => by
    iintro ⟨HΦ, Ho, H0, H1, H2, H3, ⟨%X, -, H4⟩⟩
    isplitl [HΦ]; · iexact HΦ
    isplitl [Ho]; · iexact Ho
    isplitl [H0]; · iexact H0
    isplitl [H1]; · iexact H1
    isplitl [H2]
    · iapply (back_2 m (fun _ _ => Classical.arbitrary _) (Inv := fun _ _ _ _ _ => True) c t d2)
      iexact H2
    isplitl [H3]; · iexact H3
    iexists X; iexact H4
  iapply (hp.trans (wp_mono _ _ _ hpost))
  isplitl [HΦ]; · iexact HΦ
  isplitl [Ho]; · iexact Ho
  isplitl [H0]; · iexact H0
  isplitl [H1]; · iexact H1
  isplitl [H2]; · iexact H2
  isplitl [H3]; · iexact H3
  iexact H4

theorem run_frame : θ_run defs (onTc (τ := τ) (main (F := F))) (s₀ m ρ)
    (fun r => RDat.FramePost cfg0 (fun c => (fdats m 0 c).toRForget unsaid) (V m) r ∧ r.2.sem = fun _ => 0) :=
  Pipeline.θ_run_frame_track_forget cfgs (fdats m) 0 launch0 defs₀ Variants.none unsaid m ρ main
    (hbody := obligation m) (hshare := fun c => (fdats m 0 c).share_full fun _ => rfl) (howed := fun _ _ => rfl)
    (V := V m) (hmain := hmain m _) (hA := fun _ _ => rfl)
    (hin := enter m _ (fun _ _ _ _ => trivial)) (hout := leave m _) (Q' := _) (hQ' := fun _ h => h)

/-- The frame: arguments unchanged, semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨(RDat.FramePost.arr_in h.1 c 1 rfl).trans (V_main_arg0 m c), (RDat.FramePost.arr_in h.1 c 2 rfl).trans (V_main_arg1 m c),
      (RDat.FramePost.arr_in h.1 c 0 rfl).trans (V_main_arg2 m c),
      ((h.1 c).2 main_arg3 (Pipeline.mem_restRefs_of main_arg3 (by decide) (by decide))).trans (V_main_arg3 m c)⟩, h.2⟩)
    (run_frame m ρ)

end Cert.Loss.Hand

end
-- ==== Proof.LossIdeal.Body.lean ====
/- The loss kernel's body, written again as nested steps — one 128×128 block of the weight tile with its scale,
   a row of sixteen such blocks, a chunk of four rows and its product with the activations, and the eight chunks
   after one another — and the proof that the printed body is that program. -/
module

public import proofs.«01_k».proof.Proof.Gen.LossIdeal
public import Idealize.ShloMosaic.Lib.Tactic
public import Idealize.ShloMosaic.Lib.Pipeline.Regions

@[expose] public section

set_option synthInstance.maxSize 4096

noncomputable section

namespace Cert.LossIdeal.Hand

open Cert.LossIdeal Facts₀ Idealize.ShloMosaic Idealize.ShloMosaic.TcCoe Idealize.SL.Sem

variable {F : FTy → Type} [FloatOps F]

/-- Programs of the kernel's body. -/
abbrev KProg (F : FTy → Type) (α : Type) : Type 1 := Prog (TpuEff nD τ sig (Elt F) Λ₀ .tc) α

/-! ## The pure values -/

/-- Row of the scale table that the block row `b` of grid point `i` reads: `4 i + b`, never past 124. -/
def srow (i : grid0.Coords) (b : Nat) : BitVec 32 :=
  Scalar.minsi (Scalar.addi (Scalar.muli (BitVec.ofNat 32 (i 0).val) 4#32) (BitVec.ofNat 32 b)) 124#32

/-- The scale's position in the table for block row `b` and block column `n`. -/
def soff (i : grid0.Coords) (b n : Nat) : Fin 2 → Nat := ![(Scalar.indexCast (srow i b)).toNat, n]

theorem srow_toNat (i : grid0.Coords) (b : Nat) (hb : b < 4) :
    (Scalar.indexCast (srow i b)).toNat = min (4 * (i 0).val + b) 124 :=
  (by decide +kernel : ∀ (k : Fin 32) (b : Fin 4),
    (Scalar.indexCast (Scalar.minsi (Scalar.addi (Scalar.muli (BitVec.ofNat 32 k.val) 4#32) (BitVec.ofNat 32 b.val)) 124#32)).toNat
      = min (4 * k.val + b.val) 124) (i 0) ⟨b, hb⟩

theorem soff_inb (i : grid0.Coords) (b n : Nat) (hb : b < 4) (hn : n < 128) :
    ∀ a, soff i b n a + S1x1.size a ≤ S125x128.size a := by
  have h := srow_toNat i b hb
  intro a
  match a with
  | 0 => show (Scalar.indexCast (srow i b)).toNat + 1 ≤ 125; omega
  | 1 => show n + 1 ≤ 128; omega

theorem woff_inb (b n : Nat) (hb : b < 4) (hn : n < 128) :
    ∀ a, (![b * 128, n * 128] : Fin 2 → Nat) a + S128x128.size a ≤ S512x16384.size a := by
  intro a
  match a with
  | 0 => show b * 128 + 128 ≤ 512; omega
  | 1 => show n * 128 + 128 ≤ 16384; omega

theorem xoff_inb (c : Nat) (hc : c < 8) :
    ∀ a, (![0, c * 2048] : Fin 2 → Nat) a + S384x2048.size a ≤ S384x16384.size a := by
  intro a
  match a with
  | 0 => show 0 + 384 ≤ 384; omega
  | 1 => show c * 2048 + 2048 ≤ 16384; omega

variable [Facts₀]

/-- One block of the weight tile, widened and scaled. -/
def blkV (w : Vec F S128x128 .fp8e4m3) (s : Elt F .f32) : FVec F S128x128 .bf16 :=
  mulf (extf .bf16 w bitsLt_fp8e4m3_bf16) (truncf .bf16 (broadcast S128x128 s : FVec F S128x128 .f32) bitsLt_bf16_f32)

/-- Sixteen blocks beside one another. -/
def rowV (v0 v1 v2 v3 v4 v5 v6 v7 v8 v9 v10 v11 v12 v13 v14 v15 : FVec F S128x128 .bf16) : FVec F S128x2048 .bf16 :=
  concatenate S128x2048 1 [⟨S128x128, v0⟩, ⟨S128x128, v1⟩, ⟨S128x128, v2⟩, ⟨S128x128, v3⟩, ⟨S128x128, v4⟩, ⟨S128x128, v5⟩, ⟨S128x128, v6⟩, ⟨S128x128, v7⟩, ⟨S128x128, v8⟩, ⟨S128x128, v9⟩, ⟨S128x128, v10⟩, ⟨S128x128, v11⟩, ⟨S128x128, v12⟩, ⟨S128x128, v13⟩, ⟨S128x128, v14⟩, ⟨S128x128, v15⟩] concatenates_S128x128_S128x128_S128x128_S128x128_S128x128_S128x128_S128x128_S128x128_S128x128_S128x128_S128x128_S128x128_S128x128_S128x128_S128x128_S128x128_S128x2048_d1

/-- Four rows of blocks under one another, multiplied into the activations' columns of the same chunk. -/
def chunkV (acc : FVec F S384x512 .f32) (r0 r1 r2 r3 : FVec F S128x2048 .bf16) (x : Vec F S384x2048 .bf16) : FVec F S384x512 .f32 :=
  addf acc (matmul dot_S384x2048_S512x2048_S384x512_1_1_0_0_n_n none x
    (concatenate S512x2048 0 [⟨S128x2048, r0⟩, ⟨S128x2048, r1⟩, ⟨S128x2048, r2⟩, ⟨S128x2048, r3⟩] concatenates_S128x2048_S128x2048_S128x2048_S128x2048_S512x2048_d0)
    (constant S384x512 .f32 0x00000000#32))

/-- The vocabulary entry of each column of grid point `i`'s tile. -/
def colV (i : grid0.Coords) : IVec S384x512 32 :=
  addi (broadcast S384x512 (Scalar.muli (BitVec.ofNat 32 (i 0).val) 512#32)) (iota .tc S384x512 32 [1] iota_S384x512_d1_w32)

/-- The tile's logits, minus infinity past the vocabulary. -/
def zV (i : grid0.Coords) (acc : FVec F S384x512 .f32) : FVec F S384x512 .f32 :=
  select (cmpi .slt (colV i) (broadcast S384x512 16000#32)) acc (broadcast S384x512 (Scalar.ofBits .f32 0xFF800000#32 : F .f32))

/-- A column of row sums or row maxima as a column vector. -/
def colCast (v : FVec F S384 .f32) : FVec F S384x1 .f32 := shapeCast S384x1 v shapeCasts_S384_S384x1

/-- A column vector stored as it is. -/
def same (v : FVec F S384x1 .f32) : FVec F S384x1 .f32 := shapeCast S384x1 v shapeCasts_S384x1_S384x1

/-- The running maximum after a tile. -/
def mV (z : FVec F S384x512 .f32) (m : Vec F S384x1 .f32) : FVec F S384x1 .f32 :=
  maximumf m (colCast (multiReduction .maximumf [1] S384 z 0xFF800000#32 reduces_S384x512_S384 (.inl rfl) rfl))

/-- The running sum of exponentials after a tile. -/
def sV (z : FVec F S384x512 .f32) (m s : Vec F S384x1 .f32) : FVec F S384x1 .f32 :=
  addf (mulf s (exp (subf m (mV z m)))) (colCast (multiReduction .add [1] S384
    (exp (subf z (broadcastTo S384x512 (mV z m) broadcasts_S384x1_S384x512))) 0x00000000#32 reduces_S384x512_S384 (.inl rfl) rfl))

/-- The running sum of the labels' logits after a tile. -/
def lV (i : grid0.Coords) (z : FVec F S384x512 .f32) (l : Vec F S384x1 .f32) (lab : Vec F S384x1 .i32) : FVec F S384x1 .f32 :=
  addf l (colCast (multiReduction .add [1] S384
    (select (cmpi .eq (colV i) (broadcastTo S384x512 (shapeCast S384x1 lab shapeCasts_S384x1_S384x1 : IVec S384x1 32) broadcasts_S384x1_S384x512))
      z (broadcast S384x512 (Scalar.ofBits .f32 0x00000000#32 : F .f32))) 0x00000000#32 reduces_S384x512_S384 (.inl rfl) rfl))

/-- The loss column from the final maximum, sum and label logit. -/
def outV (m s l : Vec F S384x1 .f32) : FVec F S384x1 .f32 :=
  subf (subf (addf m (log s)) l) (broadcast S384x1 (Scalar.ofBits .f32 0x411AE2B0#32 : F .f32))

/-- Is this the first grid point, as the body computes it? -/
def cond1 (i : grid0.Coords) : BitVec 1 :=
  Scalar.cmpi .ne (Scalar.extui (Scalar.cmpi .eq (BitVec.ofNat 32 (i 0).val) 0#32) : BitVec 32) 0#32

/-! ## The steps -/

section Steps

variable (i : grid0.Coords) (arg1 : Memref sig .tc .smem S125x128 .f32) (arg2 : Memref sig .tc .vmem S384x16384 .bf16)
  (arg3 : Memref sig .tc .vmem S512x16384 .fp8e4m3) (arg4 : Memref sig .tc .vmem S384x1 .i32) (arg5 : Memref sig .tc .vmem S384x1 .f32)
  (arg6 : Memref sig .tc .vmem S384x1 .f32) (arg7 : Memref sig .tc .vmem S384x1 .f32) (arg8 : Memref sig .tc .vmem S384x1 .f32)

/-- Load a whole column vector. -/
def ldc {α : Type} {e : EltTy} (arg : Memref sig .tc .vmem S384x1 e) (k : Vec F S384x1 e → KProg F α) : KProg F α :=
  Prog.op (.load arg (Rect.unit (s := S384x1) ![0, 0] S384x1.size inb_S384x1_S384x1_0_0).toLoadRect (View.loadsAt_vmem h_S384x1)) k

/-- Store a whole column vector. -/
def stc {α : Type} (arg : Memref sig .tc .vmem S384x1 .f32) (v : FVec F S384x1 .f32) (k : KProg F α) : KProg F α :=
  Prog.op (.store arg (Rect.unit (s := S384x1) ![0, 0] S384x1.size inb_S384x1_S384x1_0_0) v Finset.univ
    (View.stores_vmem_bits_univ h_S384x1 rfl) (.inl rfl)) fun _ => k

/-- Load block row `b`, block column `n` of the weight tile, then its scale. -/
def blk {α : Type} (b n : Nat) (hb : b < 4) (hn : n < 128) (k : FVec F S128x128 .bf16 → KProg F α) : KProg F α :=
  Prog.op (.load arg3 (Rect.unit (s := S512x16384) ![b * 128, n * 128] S128x128.size (woff_inb b n hb hn)).toLoadRect (View.loadsAt_vmem h_S128x128)) fun w =>
  Prog.op (.load arg1 (Rect.unit (s := S125x128) (soff i b n) S1x1.size (soff_inb i b n hb hn)).toLoadRect
    (View.loadsAt_rect (View.loads_smem_one rfl numel1_S1x1))) fun f =>
  k (blkV w (f (Shape.Idx.first (numel1_S1x1.symm ▸ Nat.one_pos))))

/-- A row of sixteen blocks. -/
def row {α : Type} (c b : Nat) (hc : c < 8) (hb : b < 4) (k : FVec F S128x2048 .bf16 → KProg F α) : KProg F α :=
  blk i arg1 arg3 b (c * 16 + 0) hb (by omega) fun v0 =>
  blk i arg1 arg3 b (c * 16 + 1) hb (by omega) fun v1 =>
  blk i arg1 arg3 b (c * 16 + 2) hb (by omega) fun v2 =>
  blk i arg1 arg3 b (c * 16 + 3) hb (by omega) fun v3 =>
  blk i arg1 arg3 b (c * 16 + 4) hb (by omega) fun v4 =>
  blk i arg1 arg3 b (c * 16 + 5) hb (by omega) fun v5 =>
  blk i arg1 arg3 b (c * 16 + 6) hb (by omega) fun v6 =>
  blk i arg1 arg3 b (c * 16 + 7) hb (by omega) fun v7 =>
  blk i arg1 arg3 b (c * 16 + 8) hb (by omega) fun v8 =>
  blk i arg1 arg3 b (c * 16 + 9) hb (by omega) fun v9 =>
  blk i arg1 arg3 b (c * 16 + 10) hb (by omega) fun v10 =>
  blk i arg1 arg3 b (c * 16 + 11) hb (by omega) fun v11 =>
  blk i arg1 arg3 b (c * 16 + 12) hb (by omega) fun v12 =>
  blk i arg1 arg3 b (c * 16 + 13) hb (by omega) fun v13 =>
  blk i arg1 arg3 b (c * 16 + 14) hb (by omega) fun v14 =>
  blk i arg1 arg3 b (c * 16 + 15) hb (by omega) fun v15 =>
  k (rowV v0 v1 v2 v3 v4 v5 v6 v7 v8 v9 v10 v11 v12 v13 v14 v15)

/-- A chunk of four rows and its product. -/
def chunk {α : Type} (c : Nat) (hc : c < 8) (acc : FVec F S384x512 .f32) (k : FVec F S384x512 .f32 → KProg F α) : KProg F α :=
  row i arg1 arg3 c 0 hc (by omega) fun r0 =>
  row i arg1 arg3 c 1 hc (by omega) fun r1 =>
  row i arg1 arg3 c 2 hc (by omega) fun r2 =>
  row i arg1 arg3 c 3 hc (by omega) fun r3 =>
  Prog.op (.load arg2 (Rect.unit (s := S384x16384) ![0, c * 2048] S384x2048.size (xoff_inb c hc)).toLoadRect (View.loadsAt_vmem h_S384x2048)) fun x =>
  k (chunkV acc r0 r1 r2 r3 x)

/-- The eight chunks. -/
def chunks {α : Type} (k : FVec F S384x512 .f32 → KProg F α) : KProg F α :=
  chunk i arg1 arg2 arg3 0 (by omega) (broadcast S384x512 (Scalar.ofBits .f32 0x00000000#32 : F .f32)) fun a0 =>
  chunk i arg1 arg2 arg3 1 (by omega) a0 fun a1 =>
  chunk i arg1 arg2 arg3 2 (by omega) a1 fun a2 =>
  chunk i arg1 arg2 arg3 3 (by omega) a2 fun a3 =>
  chunk i arg1 arg2 arg3 4 (by omega) a3 fun a4 =>
  chunk i arg1 arg2 arg3 5 (by omega) a4 fun a5 =>
  chunk i arg1 arg2 arg3 6 (by omega) a5 fun a6 =>
  chunk i arg1 arg2 arg3 7 (by omega) a6 fun a7 =>
  k a7

/-- The running values set at the first grid point. -/
def initS (k : KProg F PUnit) : KProg F PUnit :=
  ldc arg6 fun _ => stc arg6 (same (broadcast S384x1 (Scalar.ofBits .f32 0xFF800000#32 : F .f32))) <|
  ldc arg7 fun _ => stc arg7 (same (broadcast S384x1 (Scalar.ofBits .f32 0x00000000#32 : F .f32))) <|
  ldc arg8 fun _ => stc arg8 (same (broadcast S384x1 (Scalar.ofBits .f32 0x00000000#32 : F .f32))) k

/-- The loss stored at the last grid point. -/
def lastS (k : KProg F PUnit) : KProg F PUnit :=
  ldc arg6 fun m => ldc arg7 fun s => ldc arg8 fun l => ldc arg5 fun _ => stc arg5 (outV m s l) k

/-- A tile's logits, the running values from them, and the loss at the end. -/
def tileS (k : KProg F PUnit) : KProg F PUnit :=
  chunks i arg1 arg2 arg3 fun acc =>
  ldc arg6 fun m => ldc arg7 fun s =>
  ldc arg7 fun _ => stc arg7 (same (sV (zV i acc) m s)) <|
  ldc arg6 fun _ => stc arg6 (same (mV (zV i acc) m)) <|
  ldc arg8 fun l => ldc arg4 fun lab =>
  ldc arg8 fun _ => stc arg8 (same (lV i (zV i acc) l lab)) <| k

/-- The whole body. -/
def body : KProg F PUnit :=
  if cond1 i = 1#1 then initS arg6 arg7 arg8 (tileS i arg1 arg2 arg3 arg4 arg6 arg7 arg8 (if k0_cond2 i = 1#1 then lastS arg5 arg6 arg7 arg8 (Prog.ret ⟨⟩) else Prog.ret ⟨⟩))
  else tileS i arg1 arg2 arg3 arg4 arg6 arg7 arg8 (if k0_cond2 i = 1#1 then lastS arg5 arg6 arg7 arg8 (Prog.ret ⟨⟩) else Prog.ret ⟨⟩)

end Steps

/-! ## The printed body is this program -/

section Eq

variable (i : grid0.Coords) (arg1 : Memref sig .tc .smem S125x128 .f32) (harg1 : arg1.IsWhole)
  (arg2 : Memref sig .tc .vmem S384x16384 .bf16) (harg2 : arg2.IsWhole)
  (arg3 : Memref sig .tc .vmem S512x16384 .fp8e4m3) (harg3 : arg3.IsWhole)
  (arg4 : Memref sig .tc .vmem S384x1 .i32) (harg4 : arg4.IsWhole)
  (arg5 : Memref sig .tc .vmem S384x1 .f32) (harg5 : arg5.IsWhole)
  (arg6 : Memref sig .tc .vmem S384x1 .f32) (harg6 : arg6.IsWhole)
  (arg7 : Memref sig .tc .vmem S384x1 .f32) (harg7 : arg7.IsWhole)
  (arg8 : Memref sig .tc .vmem S384x1 .f32) (harg8 : arg8.IsWhole)

/-- The values the first printed part hands on. -/
abbrev Part1 (F : FTy → Type) : Type := Σ' (_ : BitVec 32) (_ : FVec F S384x512 .f32) (_ : BitVec 32) (_ : FVec F S128x128 .bf16)
  (_ : FVec F S128x128 .bf16) (_ : FVec F S128x128 .bf16) (_ : FVec F S128x128 .bf16), FVec F S128x128 .bf16

/-- The first printed part after its conditional. -/
def rest1 : KProg F (Part1 F) :=
  blk i arg1 arg3 0 0 (by omega) (by omega) fun v13 => blk i arg1 arg3 0 1 (by omega) (by omega) fun v20 =>
  blk i arg1 arg3 0 2 (by omega) (by omega) fun v27 => blk i arg1 arg3 0 3 (by omega) (by omega) fun v34 =>
  Prog.op (.load arg3 (Rect.unit (s := S512x16384) ![0, 512] S128x128.size inb_S512x16384_S128x128_0_512).toLoadRect (View.loadsAt_vmem h_S128x128)) fun (w : Vec F S128x128 .fp8e4m3) =>
  Prog.ret ⟨BitVec.ofNat 32 (i 0).val, broadcast S384x512 (Scalar.ofBits .f32 0x00000000#32 : F .f32), srow i 0, v13, v20, v27, v34,
    extf .bf16 w bitsLt_fp8e4m3_bf16⟩

/-- The conditional as a program of its own. -/
def init1 : KProg F PUnit := if cond1 i = 1#1 then initS arg6 arg7 arg8 (Prog.ret ⟨⟩) else Prog.ret ⟨⟩

theorem part1_eq : k0_part1 i arg1 harg1 arg2 harg2 arg3 harg3 arg4 harg4 arg5 harg5 arg6 harg6 arg7 harg7 arg8 harg8
    = (Prog.bind (init1 i arg6 arg7 arg8) fun _ => rest1 i arg1 arg3 : KProg F (Part1 F)) := by
  refine Eq.trans (b := (if cond1 i = 1#1 then (Prog.bind (initS arg6 arg7 arg8 (Prog.ret ⟨⟩)) fun _ => rest1 i arg1 arg3) else rest1 i arg1 arg3 : KProg F (Part1 F))) ?_ ?_
  · chain_rfl
  · unfold init1
    by_cases h : cond1 i = 1#1
    · rw [if_pos h, if_pos h]
    · rw [if_neg h, if_neg h]
      chain_rfl

set_option maxRecDepth 100000 in
/-- The printed body: the conditional, then the tile. -/
theorem body_eq : cc0_loss i arg1 harg1 arg2 harg2 arg3 harg3 arg4 harg4 arg5 harg5 arg6 harg6 arg7 harg7 arg8 harg8
    = (Prog.bind (init1 i arg6 arg7 arg8) fun _ => tileS i arg1 arg2 arg3 arg4 arg6 arg7 arg8
          (if k0_cond2 i = 1#1 then lastS arg5 arg6 arg7 arg8 (Prog.ret ⟨⟩) else Prog.ret ⟨⟩) : KProg F PUnit) := by
  unfold cc0_loss k0_part92
  rw [part1_eq]
  refine (Prog.bind_assoc _ _ _).trans ?_
  refine (Prog.bind_assoc _ _ _).trans ?_
  refine congrArg (Prog.bind _) (funext fun _ => ?_)
  chain_rfl

end Eq

end Cert.LossIdeal.Hand
-- ==== Proof.LossIdeal.Steps.lean ====
/- What each step of the loss kernel's body does to the buffers it is given: loads read, stores overwrite. -/
module

public import proofs.«01_k».proof.Proof.LossIdeal.Body
public import proofs.«01_k».proof.Proof.Gen.LossIdeal.Frame
public import Idealize.ShloMosaic.Lib.Pipeline.FrameBody
public import Idealize.ShloMosaic.Lib.VecWindow

@[expose] public section

set_option synthInstance.maxSize 4096

noncomputable section

namespace Cert.LossIdeal.Hand

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Running a program of the body on core `c`. -/
abbrev run {α : Type} (c : Dev nD) (E : Set ℕ) (p : KProg F α) (K : α → sProp 𝕄) : sProp 𝕄 :=
  wp frame (wpE (defs₀ (F := F)) Variants.none (c : Thread nD τ) none) E p K

variable (c : Dev nD) (E : Set ℕ)

/-- A load of a buffer held at `X` goes on with what the rectangle reads of `X`. -/
theorem run_load {α : Type} {sp : CoreSpace} {s : Shape} {e : EltTy} {m : Memref sig .tc sp s e} {r : Rect s} {hl : m.view.LoadsAt r}
    {k : (r.shape.Idx → Elt F e) → KProg F α} {X : s.Idx → Elt F e} {K : α → sProp 𝕄} {P : sProp 𝕄}
    (hP : P ⊢ iprop(owns (c : Thread nD τ) m fullShare X ∗ (owns (c : Thread nD τ) m fullShare X -∗ P)))
    (h : P ⊢ run c E (k (View.ld X r)) K) : P ⊢ run c E (Prog.op (.load m r hl) k) K := by
  refine hP.trans ?_
  unfold owns
  iintro ⟨⟨%f, %hf, H⟩, Hk⟩
  subst hf
  iapply (wp_load (defs := defs₀ (F := F)) Variants.none (c : Thread nD τ) none E (hl := hl) (k := k) (Q := K)
    (m := m) (r := r) (f := f) (q := fullShare) (S := m.view.set) (View.setOn_subset_set _ _)) $$ H
  iintro H
  iapply h
  iapply Hk
  iexists f
  isplitr
  · ipureintro; rfl
  · iexact H

/-- A store over a whole buffer leaves it holding what was stored. -/
theorem run_store {α : Type} {m : Memref sig .tc .vmem S384x1 .f32} {v : FVec F S384x1 .f32}
    {k : KProg F α} {X : S384x1.Idx → Elt F .f32} {K : α → sProp 𝕄} {P P' : sProp 𝕄}
    (hP : P ⊢ iprop(owns (c : Thread nD τ) m fullShare X ∗ (owns (c : Thread nD τ) m fullShare v -∗ P')))
    (h : P' ⊢ run c E k K) : P ⊢ run c E (stc m v k) K := by
  refine hP.trans ?_
  unfold owns stc
  iintro ⟨⟨%f, %hf, H⟩, Hk⟩
  iapply (wp_store (defs := defs₀ (F := F)) Variants.none (c : Thread nD τ) none E (k := fun _ => k) (Q := K)
    (m := m) (r := Rect.unit (s := S384x1) ![0, 0] S384x1.size inb_S384x1_S384x1_0_0) (w := v) (Mk := Finset.univ) (f := f) (S := m.view.set)
    ((View.setOn_subset_set _ _).trans (View.set_slice_subset _ _))) $$ H
  iintro H
  iapply h
  iapply Hk
  iexists _
  isplitr
  rotate_left
  · iexact H
  · ipureintro
    exact View.read_writes_full m.view f inb_S384x1_S384x1_0_0 v []

/-! ## The buffers the body is given -/

section Held

variable (arg1 : Memref sig .tc .smem S125x128 .f32)
  (arg2 : Memref sig .tc .vmem S384x16384 .bf16)
  (arg3 : Memref sig .tc .vmem S512x16384 .fp8e4m3)
  (arg4 : Memref sig .tc .vmem S384x1 .i32)
  (arg5 : Memref sig .tc .vmem S384x1 .f32)
  (arg6 : Memref sig .tc .vmem S384x1 .f32)
  (arg7 : Memref sig .tc .vmem S384x1 .f32)
  (arg8 : Memref sig .tc .vmem S384x1 .f32)
variable (i : grid0.Coords) (X1 : Vec F S125x128 .f32)
  (X2 : Vec F S384x16384 .bf16)
  (X3 : Vec F S512x16384 .fp8e4m3)
  (X4 : Vec F S384x1 .i32)
  (X5 : Vec F S384x1 .f32)
  (M : Vec F S384x1 .f32)
  (S : Vec F S384x1 .f32)
  (L : Vec F S384x1 .f32)

/-- The eight buffers at given contents, and whatever else is held. -/
def held (R : sProp 𝕄) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare M ∗ owns (c : Thread nD τ) arg7 fullShare S ∗ owns (c : Thread nD τ) arg8 fullShare L ∗ R)

variable {arg1 arg2 arg3 arg4 arg5 arg6 arg7 arg8} {X1 X2 X3 X4 X5 M S L}

theorem has1 {R : sProp 𝕄} : held c arg1 arg2 arg3 arg4 arg5 arg6 arg7 arg8 X1 X2 X3 X4 X5 M S L R ⊢ iprop(owns (c : Thread nD τ) arg1 fullShare X1 ∗ (owns (c : Thread nD τ) arg1 fullShare X1 -∗ held c arg1 arg2 arg3 arg4 arg5 arg6 arg7 arg8 X1 X2 X3 X4 X5 M S L R)) := by
  unfold held
  iintro ⟨H1, H2, H3, H4, H5, H6, H7, H8, HR⟩
  isplitl [H1]
  · iexact H1
  · iintro H1
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has2 {R : sProp 𝕄} : held c arg1 arg2 arg3 arg4 arg5 arg6 arg7 arg8 X1 X2 X3 X4 X5 M S L R ⊢ iprop(owns (c : Thread nD τ) arg2 fullShare X2 ∗ (owns (c : Thread nD τ) arg2 fullShare X2 -∗ held c arg1 arg2 arg3 arg4 arg5 arg6 arg7 arg8 X1 X2 X3 X4 X5 M S L R)) := by
  unfold held
  iintro ⟨H1, H2, H3, H4, H5, H6, H7, H8, HR⟩
  isplitl [H2]
  · iexact H2
  · iintro H2
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has3 {R : sProp 𝕄} : held c arg1 arg2 arg3 arg4 arg5 arg6 arg7 arg8 X1 X2 X3 X4 X5 M S L R ⊢ iprop(owns (c : Thread nD τ) arg3 fullShare X3 ∗ (owns (c : Thread nD τ) arg3 fullShare X3 -∗ held c arg1 arg2 arg3 arg4 arg5 arg6 arg7 arg8 X1 X2 X3 X4 X5 M S L R)) := by
  unfold held
  iintro ⟨H1, H2, H3, H4, H5, H6, H7, H8, HR⟩
  isplitl [H3]
  · iexact H3
  · iintro H3
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has4 {R : sProp 𝕄} : held c arg1 arg2 arg3 arg4 arg5 arg6 arg7 arg8 X1 X2 X3 X4 X5 M S L R ⊢ iprop(owns (c : Thread nD τ) arg4 fullShare X4 ∗ (owns (c : Thread nD τ) arg4 fullShare X4 -∗ held c arg1 arg2 arg3 arg4 arg5 arg6 arg7 arg8 X1 X2 X3 X4 X5 M S L R)) := by
  unfold held
  iintro ⟨H1, H2, H3, H4, H5, H6, H7, H8, HR⟩
  isplitl [H4]
  · iexact H4
  · iintro H4
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has5 {R : sProp 𝕄} : held c arg1 arg2 arg3 arg4 arg5 arg6 arg7 arg8 X1 X2 X3 X4 X5 M S L R ⊢ iprop(owns (c : Thread nD τ) arg5 fullShare X5 ∗ (owns (c : Thread nD τ) arg5 fullShare X5 -∗ held c arg1 arg2 arg3 arg4 arg5 arg6 arg7 arg8 X1 X2 X3 X4 X5 M S L R)) := by
  unfold held
  iintro ⟨H1, H2, H3, H4, H5, H6, H7, H8, HR⟩
  isplitl [H5]
  · iexact H5
  · iintro H5
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has6 {R : sProp 𝕄} : held c arg1 arg2 arg3 arg4 arg5 arg6 arg7 arg8 X1 X2 X3 X4 X5 M S L R ⊢ iprop(owns (c : Thread nD τ) arg6 fullShare M ∗ (owns (c : Thread nD τ) arg6 fullShare M -∗ held c arg1 arg2 arg3 arg4 arg5 arg6 arg7 arg8 X1 X2 X3 X4 X5 M S L R)) := by
  unfold held
  iintro ⟨H1, H2, H3, H4, H5, H6, H7, H8, HR⟩
  isplitl [H6]
  · iexact H6
  · iintro H6
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has7 {R : sProp 𝕄} : held c arg1 arg2 arg3 arg4 arg5 arg6 arg7 arg8 X1 X2 X3 X4 X5 M S L R ⊢ iprop(owns (c : Thread nD τ) arg7 fullShare S ∗ (owns (c : Thread nD τ) arg7 fullShare S -∗ held c arg1 arg2 arg3 arg4 arg5 arg6 arg7 arg8 X1 X2 X3 X4 X5 M S L R)) := by
  unfold held
  iintro ⟨H1, H2, H3, H4, H5, H6, H7, H8, HR⟩
  isplitl [H7]
  · iexact H7
  · iintro H7
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem has8 {R : sProp 𝕄} : held c arg1 arg2 arg3 arg4 arg5 arg6 arg7 arg8 X1 X2 X3 X4 X5 M S L R ⊢ iprop(owns (c : Thread nD τ) arg8 fullShare L ∗ (owns (c : Thread nD τ) arg8 fullShare L -∗ held c arg1 arg2 arg3 arg4 arg5 arg6 arg7 arg8 X1 X2 X3 X4 X5 M S L R)) := by
  unfold held
  iintro ⟨H1, H2, H3, H4, H5, H6, H7, H8, HR⟩
  isplitl [H8]
  · iexact H8
  · iintro H8
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts5 {R : sProp 𝕄} (v : FVec F S384x1 .f32) : held c arg1 arg2 arg3 arg4 arg5 arg6 arg7 arg8 X1 X2 X3 X4 X5 M S L R ⊢ iprop(owns (c : Thread nD τ) arg5 fullShare X5 ∗ (owns (c : Thread nD τ) arg5 fullShare v -∗ held c arg1 arg2 arg3 arg4 arg5 arg6 arg7 arg8 X1 X2 X3 X4 v M S L R)) := by
  unfold held
  iintro ⟨H1, H2, H3, H4, H5, H6, H7, H8, HR⟩
  isplitl [H5]
  · iexact H5
  · iintro H5
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts6 {R : sProp 𝕄} (v : FVec F S384x1 .f32) : held c arg1 arg2 arg3 arg4 arg5 arg6 arg7 arg8 X1 X2 X3 X4 X5 M S L R ⊢ iprop(owns (c : Thread nD τ) arg6 fullShare M ∗ (owns (c : Thread nD τ) arg6 fullShare v -∗ held c arg1 arg2 arg3 arg4 arg5 arg6 arg7 arg8 X1 X2 X3 X4 X5 v S L R)) := by
  unfold held
  iintro ⟨H1, H2, H3, H4, H5, H6, H7, H8, HR⟩
  isplitl [H6]
  · iexact H6
  · iintro H6
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts7 {R : sProp 𝕄} (v : FVec F S384x1 .f32) : held c arg1 arg2 arg3 arg4 arg5 arg6 arg7 arg8 X1 X2 X3 X4 X5 M S L R ⊢ iprop(owns (c : Thread nD τ) arg7 fullShare S ∗ (owns (c : Thread nD τ) arg7 fullShare v -∗ held c arg1 arg2 arg3 arg4 arg5 arg6 arg7 arg8 X1 X2 X3 X4 X5 M v L R)) := by
  unfold held
  iintro ⟨H1, H2, H3, H4, H5, H6, H7, H8, HR⟩
  isplitl [H7]
  · iexact H7
  · iintro H7
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

theorem puts8 {R : sProp 𝕄} (v : FVec F S384x1 .f32) : held c arg1 arg2 arg3 arg4 arg5 arg6 arg7 arg8 X1 X2 X3 X4 X5 M S L R ⊢ iprop(owns (c : Thread nD τ) arg8 fullShare L ∗ (owns (c : Thread nD τ) arg8 fullShare v -∗ held c arg1 arg2 arg3 arg4 arg5 arg6 arg7 arg8 X1 X2 X3 X4 X5 M S v R)) := by
  unfold held
  iintro ⟨H1, H2, H3, H4, H5, H6, H7, H8, HR⟩
  isplitl [H8]
  · iexact H8
  · iintro H8
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    iexact HR

/-- A load of a whole column vector reads it. -/
theorem ld_col {e : EltTy} (X : Vec F S384x1 e) :
    View.ld X (Rect.unit (s := S384x1) ![0, 0] S384x1.size inb_S384x1_S384x1_0_0) = X := by
  funext x
  refine congrArg X (funext fun a => Fin.ext ?_)
  match a with
  | 0 => show 0 + 1 * (x 0).val = (x 0).val; omega
  | 1 => show 0 + 1 * (x 1).val = (x 1).val; omega

theorem run_ldc {α : Type} {e : EltTy} {m : Memref sig .tc .vmem S384x1 e} {k : Vec F S384x1 e → KProg F α} {X : Vec F S384x1 e}
    {K : α → sProp 𝕄} {P : sProp 𝕄}
    (hP : P ⊢ iprop(owns (c : Thread nD τ) m fullShare X ∗ (owns (c : Thread nD τ) m fullShare X -∗ P)))
    (h : P ⊢ run c E (k X) K) : P ⊢ run c E (ldc m k) K := by
  unfold ldc
  refine run_load c E hP ?_
  rw [ld_col]
  exact h

/-! ## What the loads compute -/

/-- The scaled block at block row `b`, block column `n`. -/
def blkAt (i : grid0.Coords) (X1 : Vec F S125x128 .f32) (X3 : Vec F S512x16384 .fp8e4m3) (b n : Nat) (hb : b < 4) (hn : n < 128) : FVec F S128x128 .bf16 :=
  blkV (View.ld X3 (Rect.unit (s := S512x16384) ![b * 128, n * 128] S128x128.size (woff_inb b n hb hn)))
    (View.ld X1 (Rect.unit (s := S125x128) (soff i b n) S1x1.size (soff_inb i b n hb hn))
      (Shape.Idx.first (numel1_S1x1.symm ▸ Nat.one_pos)))

/-- Row `b` of chunk `cc`. -/
def rowAt (i : grid0.Coords) (X1 : Vec F S125x128 .f32) (X3 : Vec F S512x16384 .fp8e4m3) (cc b : Nat) (hc : cc < 8) (hb : b < 4) : FVec F S128x2048 .bf16 :=
  rowV (blkAt i X1 X3 b (cc * 16 + 0) hb (by omega))
    (blkAt i X1 X3 b (cc * 16 + 1) hb (by omega))
    (blkAt i X1 X3 b (cc * 16 + 2) hb (by omega))
    (blkAt i X1 X3 b (cc * 16 + 3) hb (by omega))
    (blkAt i X1 X3 b (cc * 16 + 4) hb (by omega))
    (blkAt i X1 X3 b (cc * 16 + 5) hb (by omega))
    (blkAt i X1 X3 b (cc * 16 + 6) hb (by omega))
    (blkAt i X1 X3 b (cc * 16 + 7) hb (by omega))
    (blkAt i X1 X3 b (cc * 16 + 8) hb (by omega))
    (blkAt i X1 X3 b (cc * 16 + 9) hb (by omega))
    (blkAt i X1 X3 b (cc * 16 + 10) hb (by omega))
    (blkAt i X1 X3 b (cc * 16 + 11) hb (by omega))
    (blkAt i X1 X3 b (cc * 16 + 12) hb (by omega))
    (blkAt i X1 X3 b (cc * 16 + 13) hb (by omega))
    (blkAt i X1 X3 b (cc * 16 + 14) hb (by omega))
    (blkAt i X1 X3 b (cc * 16 + 15) hb (by omega))

/-- Chunk `cc` added to the running product. -/
def chunkAt (i : grid0.Coords) (X1 : Vec F S125x128 .f32) (X2 : Vec F S384x16384 .bf16) (X3 : Vec F S512x16384 .fp8e4m3)
    (cc : Nat) (hc : cc < 8) (acc : FVec F S384x512 .f32) : FVec F S384x512 .f32 :=
  chunkV acc (rowAt i X1 X3 cc 0 hc (by omega)) (rowAt i X1 X3 cc 1 hc (by omega)) (rowAt i X1 X3 cc 2 hc (by omega))
    (rowAt i X1 X3 cc 3 hc (by omega))
    (View.ld X2 (Rect.unit (s := S384x16384) ![0, cc * 2048] S384x2048.size (xoff_inb cc hc)))

/-- The tile's product after the first `n` chunks. -/
def accAt (i : grid0.Coords) (X1 : Vec F S125x128 .f32) (X2 : Vec F S384x16384 .bf16) (X3 : Vec F S512x16384 .fp8e4m3) :
    (n : Nat) → n ≤ 8 → FVec F S384x512 .f32
  | 0, _ => broadcast S384x512 (Scalar.ofBits .f32 0x00000000#32 : F .f32)
  | n + 1, h => chunkAt i X1 X2 X3 n (by omega) (accAt i X1 X2 X3 n (by omega))

/-- The tile's logits. -/
def zAt (i : grid0.Coords) (X1 : Vec F S125x128 .f32) (X2 : Vec F S384x16384 .bf16) (X3 : Vec F S512x16384 .fp8e4m3) : FVec F S384x512 .f32 :=
  zV i (accAt i X1 X2 X3 8 (le_refl _))

theorem run_blk {α : Type} {R : sProp 𝕄} (b n : Nat) (hb : b < 4) (hn : n < 128) (k : FVec F S128x128 .bf16 → KProg F α) (K : α → sProp 𝕄)
    (h : held c arg1 arg2 arg3 arg4 arg5 arg6 arg7 arg8 X1 X2 X3 X4 X5 M S L R ⊢ run c E (k (blkAt i X1 X3 b n hb hn)) K) :
    held c arg1 arg2 arg3 arg4 arg5 arg6 arg7 arg8 X1 X2 X3 X4 X5 M S L R ⊢ run c E (blk i arg1 arg3 b n hb hn k) K :=
  run_load c E (has3 c) (run_load c E (has1 c) h)

theorem run_row {α : Type} {R : sProp 𝕄} (cc b : Nat) (hc : cc < 8) (hb : b < 4) (k : FVec F S128x2048 .bf16 → KProg F α) (K : α → sProp 𝕄)
    (h : held c arg1 arg2 arg3 arg4 arg5 arg6 arg7 arg8 X1 X2 X3 X4 X5 M S L R ⊢ run c E (k (rowAt i X1 X3 cc b hc hb)) K) :
    held c arg1 arg2 arg3 arg4 arg5 arg6 arg7 arg8 X1 X2 X3 X4 X5 M S L R ⊢ run c E (row i arg1 arg3 cc b hc hb k) K := by
  unfold row
  iterate 16 refine run_blk c E i _ _ _ _ _ _ ?_
  exact h

theorem run_chunk {α : Type} {R : sProp 𝕄} (cc : Nat) (hc : cc < 8) (acc : FVec F S384x512 .f32) (k : FVec F S384x512 .f32 → KProg F α) (K : α → sProp 𝕄)
    (h : held c arg1 arg2 arg3 arg4 arg5 arg6 arg7 arg8 X1 X2 X3 X4 X5 M S L R ⊢ run c E (k (chunkAt i X1 X2 X3 cc hc acc)) K) :
    held c arg1 arg2 arg3 arg4 arg5 arg6 arg7 arg8 X1 X2 X3 X4 X5 M S L R ⊢ run c E (chunk i arg1 arg2 arg3 cc hc acc k) K := by
  unfold chunk
  iterate 4 refine run_row c E i _ _ _ _ _ _ ?_
  exact run_load c E (has2 c) h

theorem run_chunks {α : Type} {R : sProp 𝕄} (k : FVec F S384x512 .f32 → KProg F α) (K : α → sProp 𝕄)
    (h : held c arg1 arg2 arg3 arg4 arg5 arg6 arg7 arg8 X1 X2 X3 X4 X5 M S L R ⊢ run c E (k (accAt i X1 X2 X3 8 (le_refl _))) K) :
    held c arg1 arg2 arg3 arg4 arg5 arg6 arg7 arg8 X1 X2 X3 X4 X5 M S L R ⊢ run c E (chunks i arg1 arg2 arg3 k) K := by
  unfold chunks
  iterate 8 refine run_chunk c E i _ _ _ _ _ ?_
  exact h

/-- The tile updates the running values. -/
theorem run_tile {R : sProp 𝕄} (k : KProg F PUnit) (K : PUnit → sProp 𝕄)
    (h : held c arg1 arg2 arg3 arg4 arg5 arg6 arg7 arg8 X1 X2 X3 X4 X5 (same (mV (zAt i X1 X2 X3) M)) (same (sV (zAt i X1 X2 X3) M S)) (same (lV i (zAt i X1 X2 X3) L X4)) R ⊢ run c E k K) :
    held c arg1 arg2 arg3 arg4 arg5 arg6 arg7 arg8 X1 X2 X3 X4 X5 M S L R ⊢ run c E (tileS i arg1 arg2 arg3 arg4 arg6 arg7 arg8 k) K := by
  unfold tileS
  refine run_chunks c E i _ _ ?_
  refine run_ldc c E (has6 c) ?_
  refine run_ldc c E (has7 c) ?_
  refine run_ldc c E (has7 c) ?_
  refine run_store c E (puts7 c _) ?_
  refine run_ldc c E (has6 c) ?_
  refine run_store c E (puts6 c _) ?_
  refine run_ldc c E (has8 c) ?_
  refine run_ldc c E (has4 c) ?_
  refine run_ldc c E (has8 c) ?_
  exact run_store c E (puts8 c _) h

/-- The running values before the first tile. -/
def m0 : FVec F S384x1 .f32 := same (broadcast S384x1 (Scalar.ofBits .f32 0xFF800000#32 : F .f32))
def z0 : FVec F S384x1 .f32 := same (broadcast S384x1 (Scalar.ofBits .f32 0x00000000#32 : F .f32))

theorem run_init {R : sProp 𝕄} (k : KProg F PUnit) (K : PUnit → sProp 𝕄)
    (h : held c arg1 arg2 arg3 arg4 arg5 arg6 arg7 arg8 X1 X2 X3 X4 X5 m0 z0 z0 R ⊢ run c E k K) :
    held c arg1 arg2 arg3 arg4 arg5 arg6 arg7 arg8 X1 X2 X3 X4 X5 M S L R ⊢ run c E (initS arg6 arg7 arg8 k) K := by
  unfold initS
  refine run_ldc c E (has6 c) ?_
  refine run_store c E (puts6 c _) ?_
  refine run_ldc c E (has7 c) ?_
  refine run_store c E (puts7 c _) ?_
  refine run_ldc c E (has8 c) ?_
  exact run_store c E (puts8 c _) h

theorem run_last {R : sProp 𝕄} (k : KProg F PUnit) (K : PUnit → sProp 𝕄)
    (h : held c arg1 arg2 arg3 arg4 arg5 arg6 arg7 arg8 X1 X2 X3 X4 (outV M S L) M S L R ⊢ run c E k K) :
    held c arg1 arg2 arg3 arg4 arg5 arg6 arg7 arg8 X1 X2 X3 X4 X5 M S L R ⊢ run c E (lastS arg5 arg6 arg7 arg8 k) K := by
  unfold lastS
  refine run_ldc c E (has6 c) ?_
  refine run_ldc c E (has7 c) ?_
  refine run_ldc c E (has8 c) ?_
  refine run_ldc c E (has5 c) ?_
  exact run_store c E (puts5 c _) h

/-- The running values as grid point `i` finds them, reset at the first point. -/
def mIn (i : grid0.Coords) (M : Vec F S384x1 .f32) : Vec F S384x1 .f32 := if cond1 i = 1#1 then m0 else M
def zIn (i : grid0.Coords) (S : Vec F S384x1 .f32) : Vec F S384x1 .f32 := if cond1 i = 1#1 then z0 else S

/-- The running values after grid point `i`. -/
def mOut (i : grid0.Coords) (X1 : Vec F S125x128 .f32) (X2 : Vec F S384x16384 .bf16) (X3 : Vec F S512x16384 .fp8e4m3) (M : Vec F S384x1 .f32) : Vec F S384x1 .f32 :=
  same (mV (zAt i X1 X2 X3) (mIn i M))
def sOut (i : grid0.Coords) (X1 : Vec F S125x128 .f32) (X2 : Vec F S384x16384 .bf16) (X3 : Vec F S512x16384 .fp8e4m3) (M S : Vec F S384x1 .f32) : Vec F S384x1 .f32 :=
  same (sV (zAt i X1 X2 X3) (mIn i M) (zIn i S))
def lOut (i : grid0.Coords) (X1 : Vec F S125x128 .f32) (X2 : Vec F S384x16384 .bf16) (X3 : Vec F S512x16384 .fp8e4m3) (L : Vec F S384x1 .f32) (X4 : Vec F S384x1 .i32) : Vec F S384x1 .f32 :=
  same (lV i (zAt i X1 X2 X3) (zIn i L) X4)

/-- The output buffer after grid point `i`: the loss at the last point, untouched before. -/
def oOut (i : grid0.Coords) (X5 M S L : Vec F S384x1 .f32) : Vec F S384x1 .f32 := if k0_cond2 i = 1#1 then outV M S L else X5

/-- The whole body at grid point `i`. -/
theorem run_body {R : sProp 𝕄} (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (K : PUnit → sProp 𝕄)
    (h : held c arg1 arg2 arg3 arg4 arg5 arg6 arg7 arg8 X1 X2 X3 X4
        (oOut i X5 (mOut i X1 X2 X3 M) (sOut i X1 X2 X3 M S) (lOut i X1 X2 X3 L X4))
        (mOut i X1 X2 X3 M) (sOut i X1 X2 X3 M S) (lOut i X1 X2 X3 L X4) R ⊢ K ⟨⟩) :
    held c arg1 arg2 arg3 arg4 arg5 arg6 arg7 arg8 X1 X2 X3 X4 X5 M S L R ⊢ run c E (cc0_loss i arg1 harg1 arg2 harg2 arg3 harg3 arg4 harg4 arg5 harg5 arg6 harg6 arg7 harg7 arg8 harg8) K := by
  rw [body_eq]
  have h2 : held c arg1 arg2 arg3 arg4 arg5 arg6 arg7 arg8 X1 X2 X3 X4 X5 (mOut i X1 X2 X3 M) (sOut i X1 X2 X3 M S) (lOut i X1 X2 X3 L X4) R
      ⊢ run c E (if k0_cond2 i = 1#1 then lastS arg5 arg6 arg7 arg8 (Prog.ret ⟨⟩) else Prog.ret ⟨⟩) K := by
    unfold oOut at h
    by_cases h2 : k0_cond2 i = 1#1
    · rw [if_pos h2] at h ⊢
      exact run_last c E _ _ (h.trans (le_wp_ret _ _ _ _ _))
    · rw [if_neg h2] at h ⊢
      exact h.trans (le_wp_ret _ _ _ _ _)
  unfold mOut sOut lOut mIn zIn at h2
  unfold init1
  by_cases h1 : cond1 i = 1#1
  · simp only [if_pos h1] at h2
    rw [if_pos h1]
    exact run_init c E _ _ (run_tile c E i _ _ h2)
  · simp only [if_neg h1] at h2
    rw [if_neg h1]
    exact run_tile c E i _ _ h2

end Held

end Cert.LossIdeal.Hand
-- ==== Proof.LossIdeal.Run.lean ====
/- The loss kernel's run: what its scratch buffers carry from one grid point to the next, the body's obligation at a
   grid point, and the launch. `Inv` is what is known of the scratch before a point; `Out` what is known of the
   result's buffer after one. -/
module

public import proofs.«01_k».proof.Proof.LossIdeal.Steps

@[expose] public section

set_option synthInstance.maxSize 4096
set_option maxRecDepth 16384

noncomputable section

namespace Cert.LossIdeal.Hand

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F] [∀ e, Nonempty (Elt F e)]

local notation "𝕄" => MT nD τ sig Unit (Elt F) ℕ (UR sig nD τ) ℕ
/-- A column of 384 values. -/
abbrev Col (F : FTy → Type) := Vec F S384x1 EltTy.f32

variable (m : (ℓ : Loc nD τ sig) → Buf (Elt F) ℓ) (ρ : Dev nD → PrngReg)

/-- The weight tile as the kernel finds it: the rows inside the array, `d` on the rows beyond it. -/
abbrev wTile (c : Dev nD) (t : Fin cfg0.N) (d : Vec F S512x16384 .fp8e4m3) : Vec F S512x16384 .fp8e4m3 :=
  win0_2.fill (grid0.coords t) d (iblk m c 2 t)

/-- Rows nothing names. -/
def anyTile : Vec F S512x16384 .fp8e4m3 := fun _ => Classical.arbitrary _

variable (Inv : Dev nD → ℕ → Col F → Col F → Col F → Prop) (O : Dev nD → Col F)

/-- The scratch buffers before point `t`, and the generator's register. -/
def carried (c : Dev nD) (t : ℕ) : sProp 𝕄 :=
  iprop(∃ M S L, ⌜Inv c t M S L⌝ ∗ owns (c : Thread nD τ) (Memref.whole cc0_scratch0) fullShare M
    ∗ owns (c : Thread nD τ) (Memref.whole cc0_scratch1) fullShare S
    ∗ owns (c : Thread nD τ) (Memref.whole cc0_scratch2) fullShare L ∗ ∃ r, prngReg c r)

/-- The run's proof data: the arrays as the region finds them, the inputs' buffers left as found, the result's at
    `O`. -/
def dats (p : Fin 1) (c : Dev nD) : Dat τ (Elt F) Unit ℕ (UR sig nD τ) ℕ (cfgs p) c where
  A w := V m c (Pipeline.arrRef spec0 w)
  after w t := match w with
    | 0 => iblk m c 0 t
    | 1 => iblk m c 1 t
    | 2 => wTile m c t anyTile
    | 3 => iblk m c 3 t
    | 4 => O c
  Φ t := carried Inv c t.val
  q _ := fullShare
  owed _ := 0

theorem before_0 (c : Dev nD) (t : Fin cfg0.N) (d) : (dats m Inv O 0 c).before (0 : Fin 5) t d = iblk m c 0 t :=
  before0_0_of m (dats m Inv O 0 c) rfl (fun _ => rfl) t d
theorem before_1 (c : Dev nD) (t : Fin cfg0.N) (d) : (dats m Inv O 0 c).before (1 : Fin 5) t d = iblk m c 1 t :=
  before0_1_of m (dats m Inv O 0 c) rfl (fun _ => rfl) t d
theorem before_2 (c : Dev nD) (t : Fin cfg0.N) (d) : (dats m Inv O 0 c).before (2 : Fin 5) t d = wTile m c t d := by
  unfold Dat.before; rw [if_pos (fetch0_2 t)]; rfl
theorem before_3 (c : Dev nD) (t : Fin cfg0.N) (d) : (dats m Inv O 0 c).before (3 : Fin 5) t d = iblk m c 3 t :=
  before0_3_of m (dats m Inv O 0 c) rfl (fun _ => rfl) t d

variable (Out : Dev nD → Fin cfg0.N → Col F → Col F → Prop)

/-- What one point does to the knowledge of the scratch and of the result's buffer. -/
def Steps : Prop := ∀ (c : Dev nD) (t : Fin cfg0.N) (d : Vec F S512x16384 .fp8e4m3) (X5 M S L : Col F), Inv c t.val M S L →
  Inv c (t.val + 1) (mOut (grid0.coords t) (iblk m c 0 t) (iblk m c 1 t) (wTile m c t d) M)
    (sOut (grid0.coords t) (iblk m c 0 t) (iblk m c 1 t) (wTile m c t d) M S)
    (lOut (grid0.coords t) (iblk m c 0 t) (iblk m c 1 t) (wTile m c t d) L (iblk m c 3 t))
  ∧ Out c t X5 (oOut (grid0.coords t) X5 (mOut (grid0.coords t) (iblk m c 0 t) (iblk m c 1 t) (wTile m c t d) M)
    (sOut (grid0.coords t) (iblk m c 0 t) (iblk m c 1 t) (wTile m c t d) M S)
    (lOut (grid0.coords t) (iblk m c 0 t) (iblk m c 1 t) (wTile m c t d) L (iblk m c 3 t)))

variable {Inv Out}

/-- One point: from the buffers as found to the buffers as left. -/
theorem point (hs : Steps m Inv Out) (c : Dev nD) (t : Fin cfg0.N) (d : Vec F S512x16384 .fp8e4m3) (X5 : Col F) (R : sProp 𝕄) :
    iprop((dats m Inv O 0 c).Φ t.castSucc ∗ R
      ∗ owns (c : Thread nD τ) (st0_0 t) fullShare (iblk m c 0 t) ∗ owns (c : Thread nD τ) (st0_1 t) fullShare (iblk m c 1 t)
      ∗ owns (c : Thread nD τ) (st0_2 t) fullShare (wTile m c t d) ∗ owns (c : Thread nD τ) (st0_3 t) fullShare (iblk m c 3 t)
      ∗ owns (c : Thread nD τ) (st0_4 t) fullShare X5)
    ⊢ run c Set.univ (bodyAt0 t) fun _ => iprop((dats m Inv O 0 c).Φ t.succ ∗ R
      ∗ owns (c : Thread nD τ) (st0_0 t) fullShare (iblk m c 0 t) ∗ owns (c : Thread nD τ) (st0_1 t) fullShare (iblk m c 1 t)
      ∗ owns (c : Thread nD τ) (st0_2 t) fullShare (wTile m c t d) ∗ owns (c : Thread nD τ) (st0_3 t) fullShare (iblk m c 3 t)
      ∗ ∃ X, ⌜Out c t X5 X⌝ ∗ owns (c : Thread nD τ) (st0_4 t) fullShare X) := by
  rw [show (dats m Inv O 0 c).Φ t.castSucc = carried Inv c t.val from rfl,
    show (dats m Inv O 0 c).Φ t.succ = carried Inv c (t.val + 1) from rfl]
  unfold carried
  iintro ⟨⟨%M, %S, %L, %hI, HM, HS, HL, Hp⟩, HR, H0, H1, H2, H3, H4⟩
  iapply (run_body (R := iprop((∃ r, prngReg c r) ∗ R)) c Set.univ (grid0.coords t) (X1 := iblk m c 0 t) (X2 := iblk m c 1 t) (X3 := wTile m c t d)
    (X4 := iblk m c 3 t) (X5 := X5) (M := M) (S := S) (L := L) _ _ _ _ _ _ _ _ _ ?_)
  · unfold held
    iintro ⟨H0, H1, H2, H3, H4, HM, HS, HL, Hp, HR⟩
    isplitl [HM HS HL Hp]
    · iexists _; iexists _; iexists _
      isplitr
      · ipureintro; exact (hs c t d X5 M S L hI).1
      isplitl [HM]; · iexact HM
      isplitl [HS]; · iexact HS
      isplitl [HL]; · iexact HL
      iexact Hp
    isplitl [HR]; · iexact HR
    isplitl [H0]; · iexact H0
    isplitl [H1]; · iexact H1
    isplitl [H2]; · iexact H2
    isplitl [H3]; · iexact H3
    iexists _
    isplitr
    · ipureintro; exact (hs c t d X5 M S L hI).2
    iexact H4
  · unfold held
    isplitl [H0]; · iexact H0
    isplitl [H1]; · iexact H1
    isplitl [H2]; · iexact H2
    isplitl [H3]; · iexact H3
    isplitl [H4]; · iexact H4
    isplitl [HM]; · iexact HM
    isplitl [HS]; · iexact HS
    isplitl [HL]; · iexact HL
    isplitl [Hp]; · iexact Hp
    iexact HR

/-- The weight buffer handed back: on the rows inside the array, the rows it was filled with. -/
theorem back_2 (c : Dev nD) (t : Fin cfg0.N) (d : Vec F S512x16384 .fp8e4m3) :
    owns (c : Thread nD τ) (st0_2 t) fullShare (wTile m c t d)
      ⊢ (iprop(∃ d, owns (c : Thread nD τ) (st0_2 t) fullShare
          (win0_2.fill (grid0.coords t) d (win0_2.cut (grid0.coords t) ((dats m Inv O 0 c).after (2 : Fin 5) t)))) : sProp 𝕄) := by
  iintro H
  iexists d
  change _ ⊢ owns (c : Thread nD τ) (st0_2 t) fullShare (win0_2.fill (grid0.coords t) d (win0_2.cut (grid0.coords t) (wTile m c t anyTile)))
  rw [win0_2.cut_fill]
  try iexact H

/-- The scratch as the launch hands it over is the scratch before the first point. -/
theorem enter (h0 : ∀ c M S L, Inv c 0 M S L) (c : Dev nD) : Pipeline.ΦA spec0 c ⊢ (dats m Inv O 0 c).Φ 0 := by
  rw [show (dats m Inv O 0 c).Φ 0 = carried Inv c 0 from rfl]
  unfold Pipeline.ΦA carried
  rw [scopedRest0_eq]
  simp only [owns_whole_eq]
  iintro ⟨⟨⟨%f0, H0⟩, ⟨%f1, H1⟩, ⟨%f2, H2⟩⟩, Hp⟩
  iexists f0; iexists f1; iexists f2
  isplitr; · ipureintro; exact h0 _ _ _ _
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexact Hp

/-- After the last point the scratch is given back. -/
theorem leave (c : Dev nD) : (dats m Inv O 0 c).Φ (Fin.last cfg0.N) ⊢ Pipeline.ΦA spec0 c := by
  rw [show (dats m Inv O 0 c).Φ (Fin.last cfg0.N) = carried Inv c cfg0.N from rfl]
  unfold Pipeline.ΦA carried
  rw [scopedRest0_eq]
  simp only [owns_whole_eq]
  iintro ⟨%M, %S, %L, %hI, ⟨%f0, %h0, H0⟩, ⟨%f1, %h1, H1⟩, ⟨%f2, %h2, H2⟩, Hp⟩
  isplitl [H0 H1 H2]
  · isplitl [H0]; · iexists f0; iexact H0
    isplitl [H1]; · iexists f1; iexact H1
    iexists f2; iexact H2
  iexact Hp

end Cert.LossIdeal.Hand

end
-- ==== Proof.Online.lean ====
/- The online softmax over the extended reals: a running maximum and a running sum of exponentials, rescaled whenever
   the maximum moves, are the maximum and the sum of exponentials of everything seen so far. -/
module

public import Idealize.ShloMosaic.PureOps.Ideal
public import Idealize.ShloMosaic.PureOps.Ideal.Laws

@[expose] public section

noncomputable section

namespace Cert.Online

open Idealize.ShloMosaic
open scoped BigOperators

theorem exp_nonneg (x : EReal) : 0 ≤ Ideal.exp x := by
  induction x with
  | bot => exact le_refl _
  | top => exact le_top
  | coe r => exact EReal.coe_nonneg.2 (Real.exp_pos r).le

/-- Minus infinity less anything is minus infinity, so its exponential is zero. -/
theorem exp_bot_sub (m : EReal) : Ideal.exp (⊥ - m) = 0 := by
  rw [sub_eq_add_neg, EReal.bot_add]; rfl

theorem exp_sub_top (z : EReal) : Ideal.exp (z - ⊤) = 0 := by
  rw [sub_eq_add_neg, EReal.neg_top, EReal.add_bot]; rfl

/-- Moving the reference point of an exponential up from `m` to `m'`. -/
theorem exp_shift {z m m' : EReal} (h1 : z ≤ m) (h2 : m ≤ m') :
    Ideal.exp (z - m) * Ideal.exp (m - m') = Ideal.exp (z - m') := by
  induction m' with
  | top => rw [exp_sub_top, exp_sub_top, mul_zero]
  | bot =>
    have hm : m = ⊥ := le_bot_iff.1 h2
    have hz : z = ⊥ := le_bot_iff.1 (hm ▸ h1)
    rw [hm, hz, exp_bot_sub, mul_zero]
  | coe b =>
    induction m with
    | top => exact absurd h2 (not_le.2 (EReal.coe_lt_top b))
    | bot =>
      have hz : z = ⊥ := le_bot_iff.1 h1
      rw [hz, exp_bot_sub, exp_bot_sub, zero_mul]
    | coe a =>
      induction z with
      | top => exact absurd h1 (not_le.2 (EReal.coe_lt_top a))
      | bot => rw [exp_bot_sub, exp_bot_sub, zero_mul]
      | coe r =>
        rw [← EReal.coe_sub, ← EReal.coe_sub, ← EReal.coe_sub]
        show ((Real.exp (r - a) : ℝ) : EReal) * ((Real.exp (a - b) : ℝ) : EReal) = ((Real.exp (r - b) : ℝ) : EReal)
        rw [← EReal.coe_mul, ← Real.exp_add]
        congr 2
        ring

/-- The largest of the first `n` logits, minus infinity of none. -/
def top (z : ℕ → EReal) (n : ℕ) : EReal := (Finset.range n).sup z

/-- The sum of the first `n` logits' exponentials about `m`. -/
def mass (z : ℕ → EReal) (n : ℕ) (m : EReal) : EReal := ∑ v ∈ Finset.range n, Ideal.exp (z v - m)

/-- The sum of the first `n` values of `f`. -/
def total (f : ℕ → EReal) (n : ℕ) : EReal := ∑ v ∈ Finset.range n, f v

theorem top_zero (z : ℕ → EReal) : top z 0 = ⊥ := rfl
theorem mass_zero (z : ℕ → EReal) (m : EReal) : mass z 0 m = 0 := rfl
theorem total_zero (f : ℕ → EReal) : total f 0 = 0 := rfl

theorem le_top_of_lt (z : ℕ → EReal) {v n : ℕ} (h : v < n) : z v ≤ top z n :=
  Finset.le_sup (f := z) (Finset.mem_range.2 h)

/-- The maximum after another tile of `k` columns. -/
theorem top_add (z : ℕ → EReal) (n k : ℕ) :
    top z (n + k) = max (top z n) (Finset.univ.sup fun j : Fin k => z (n + j.val)) := by
  refine le_antisymm (Finset.sup_le fun v hv => ?_) (max_le (Finset.sup_le fun v hv => ?_) (Finset.sup_le fun j _ => ?_))
  · have hv := Finset.mem_range.1 hv
    by_cases h : v < n
    · exact (le_top_of_lt z h).trans (le_max_left _ _)
    · refine le_trans ?_ (le_max_right _ _)
      have := Finset.le_sup (f := fun j : Fin k => z (n + j.val)) (Finset.mem_univ ⟨v - n, by omega⟩)
      simp only at this
      rwa [Nat.add_sub_cancel' (by omega)] at this
  · have := Finset.mem_range.1 hv
    exact le_top_of_lt z (by omega)
  · exact le_top_of_lt z (by omega)

theorem top_mono (z : ℕ → EReal) (n k : ℕ) : top z n ≤ top z (n + k) := by
  rw [top_add]; exact le_max_left _ _

/-- A sum of exponentials taken about `m`, rescaled to `m'`. -/
theorem mass_shift (z : ℕ → EReal) (n : ℕ) (m m' : EReal) (hz : ∀ v < n, z v ≤ m) (h : m ≤ m') :
    mass z n m * Ideal.exp (m - m') = mass z n m' := by
  induction n with
  | zero => rw [mass_zero, mass_zero, zero_mul]
  | succ n ih =>
    unfold mass at ih ⊢
    rw [Finset.sum_range_succ, Finset.sum_range_succ,
      EReal.right_distrib_of_nonneg (Finset.sum_nonneg fun _ _ => exp_nonneg _) (exp_nonneg _),
      ih fun v hv => hz v (by omega), exp_shift (hz n (by omega)) h]

/-- The running sum after another tile of `k` columns. -/
theorem mass_add (z : ℕ → EReal) (n k : ℕ) :
    mass z (n + k) (top z (n + k))
      = mass z n (top z n) * Ideal.exp (top z n - top z (n + k)) + ∑ j : Fin k, Ideal.exp (z (n + j.val) - top z (n + k)) := by
  rw [mass_shift z n _ _ (fun v hv => le_top_of_lt z hv) (top_mono z n k)]
  unfold mass
  rw [Finset.sum_range_add, Finset.sum_range (fun x => Ideal.exp (z (n + x) - top z (n + k)))]

theorem total_add (f : ℕ → EReal) (n k : ℕ) : total f (n + k) = total f n + ∑ j : Fin k, f (n + j.val) := by
  unfold total
  rw [Finset.sum_range_add, Finset.sum_range (fun x => f (n + x))]

/-- Columns masked with minus infinity add nothing to the maximum, -/
theorem top_masked (z : ℕ → EReal) (n k : ℕ) (h : ∀ v, n ≤ v → z v = ⊥) : top z (n + k) = top z n := by
  rw [top_add, max_eq_left]
  exact Finset.sup_le fun j _ => (h _ (by omega)).le.trans bot_le

/-- nor to the sum of exponentials, -/
theorem mass_masked (z : ℕ → EReal) (n k : ℕ) (m : EReal) (h : ∀ v, n ≤ v → z v = ⊥) : mass z (n + k) m = mass z n m := by
  unfold mass
  have : ∑ x ∈ Finset.range k, Ideal.exp (z (n + x) - m) = 0 :=
    Finset.sum_eq_zero fun x _ => by rw [h (n + x) (by omega), exp_bot_sub]
  rw [Finset.sum_range_add, this, add_zero]

/-- and columns with nothing in them add nothing to a sum. -/
theorem total_masked (f : ℕ → EReal) (n k : ℕ) (h : ∀ v, n ≤ v → v < n + k → f v = 0) : total f (n + k) = total f n := by
  unfold total
  have : ∑ x ∈ Finset.range k, f (n + x) = 0 :=
    Finset.sum_eq_zero fun x hx => h (n + x) (by omega) (by have := Finset.mem_range.1 hx; omega)
  rw [Finset.sum_range_add, this, add_zero]

/-- A sum over chunks of `k` is the sum over all. -/
theorem total_chunk (f : ℕ → EReal) (n k : ℕ) : total f ((n + 1) * k) = total f (n * k) + ∑ j : Fin k, f (n * k + j.val) := by
  rw [Nat.succ_mul, total_add]

theorem total_fin (f : ℕ → EReal) (n : ℕ) : total f n = ∑ j : Fin n, f j.val := Finset.sum_range f
theorem mass_fin (z : ℕ → EReal) (n : ℕ) (m : EReal) : mass z n m = ∑ j : Fin n, Ideal.exp (z j.val - m) :=
  Finset.sum_range fun v => Ideal.exp (z v - m)
theorem top_fin (z : ℕ → EReal) (n : ℕ) : top z n = Finset.univ.sup fun j : Fin n => z j.val := by
  have := top_add z 0 n
  rw [Nat.zero_add, top_zero, bot_sup_eq] at this
  simpa using this

end Cert.Online

end
-- ==== Proof.LossIdeal.Tile.lean ====
/- A tile of logits at the ideal values: each is the whole inner product of a row of activations and a row of scaled
   weights, minus infinity past the vocabulary. -/
module

public import proofs.«01_k».proof.Proof.LossIdeal.Steps
public import proofs.«01_k».proof.Proof.Online
public import Idealize.ShloMosaic.Lib.ValueIdx
public import Idealize.ShloMosaic.Lib.MatmulPlain
public import Idealize.ShloMosaic.Lib.Pipeline.Value
public import Idealize.ShloMosaic.Lib.Pipeline.ValueKit.Tiles

@[expose] public section

set_option synthInstance.maxSize 4096

noncomputable section

namespace Cert.LossIdeal.Hand

open Cert.LossIdeal Cert.LossIdeal.Gen
open Idealize.ShloMosaic Idealize.ShloMosaic.TcCoe Idealize.ShloMosaic.ValueIdx
open scoped BigOperators

variable (i : grid0.Coords) (X1 : Vec Ideal S125x128 .f32) (X2 : Vec Ideal S384x16384 .bf16) (X3 : Vec Ideal S512x16384 .fp8e4m3)

/-- Row `n`, column `k` of the scaled weight tile. -/
def wS (n : Fin 512) (k : Fin 16384) : EReal :=
  (X3 (ix2 n k) : EReal) * (X1 (ix2 ⟨min (4 * (i 0).val + n.val / 128) 124, by omega⟩ ⟨k.val / 128, by omega⟩) : EReal)

theorem blkAt_apply (b n : Nat) (hb : b < 4) (hn : n < 128) (p q : Fin 128) :
    blkAt i X1 X3 b n hb hn (ix2 p q) = wS i X1 X3 ⟨b * 128 + p.val, by omega⟩ ⟨n * 128 + q.val, by omega⟩ := by
  show (View.ld X3 (Rect.unit (s := S512x16384) ![b * 128, n * 128] S128x128.size (woff_inb b n hb hn)) (ix2 p q) : EReal)
    * View.ld X1 (Rect.unit (s := S125x128) (soff i b n) S1x1.size (soff_inb i b n hb hn)) _ = _
  unfold wS
  congr 1
  · refine View.ld_unit_apply_of X3 _ _ _ _ _ fun a => ?_
    match a with
    | 0 => rfl
    | 1 => rfl
  · refine View.ld_unit_apply_of X1 _ _ _ _ _ fun a => ?_
    match a with
    | 0 =>
      show min (4 * (i 0).val + (b * 128 + p.val) / 128) 124 = (Scalar.indexCast (srow i b)).toNat + 0
      rw [srow_toNat i b hb]; omega
    | 1 => show (n * 128 + q.val) / 128 = n + 0; omega

theorem rowAt_apply (cc b : Nat) (hc : cc < 8) (hb : b < 4) (p : Fin 128) (q : Fin 2048) :
    rowAt i X1 X3 cc b hc hb (ix2 p q) = wS i X1 X3 ⟨b * 128 + p.val, by omega⟩ ⟨cc * 2048 + q.val, by omega⟩ := by
  refine (concatenate_ofFn_apply (s₁ := S128x128) (t := S128x2048) (1 : Fin 2) (N := 16) (fun n => blkAt i X1 X3 b (cc * 16 + n.val) hb (by omega))
    concatenates_S128x128_S128x128_S128x128_S128x128_S128x128_S128x128_S128x128_S128x128_S128x128_S128x128_S128x128_S128x128_S128x128_S128x128_S128x128_S128x128_S128x2048_d1
    rfl 128 rfl (ix2 p q) ⟨q.val / 128, by omega⟩ rfl (ix2 p ⟨q.val % 128, by omega⟩) rfl fun a ha => ?_).trans ?_
  · match a with
    | 0 => rfl
    | 1 => exact absurd rfl ha
  · rw [blkAt_apply]
    congr 2
    show (cc * 16 + q.val / 128) * 128 + q.val % 128 = cc * 2048 + q.val
    omega

/-- The chunk's four rows of blocks under one another. -/
theorem rows_apply (cc : Nat) (hc : cc < 8) (n : Fin 512) (q : Fin 2048) :
    (concatenate S512x2048 0 [⟨S128x2048, rowAt i X1 X3 cc 0 hc (by omega)⟩, ⟨S128x2048, rowAt i X1 X3 cc 1 hc (by omega)⟩,
      ⟨S128x2048, rowAt i X1 X3 cc 2 hc (by omega)⟩, ⟨S128x2048, rowAt i X1 X3 cc 3 hc (by omega)⟩]
      concatenates_S128x2048_S128x2048_S128x2048_S128x2048_S512x2048_d0 : FVec Ideal S512x2048 .bf16) (ix2 n q)
      = wS i X1 X3 n ⟨cc * 2048 + q.val, by omega⟩ := by
  refine (concatenate_ofFn_apply (s₁ := S128x2048) (t := S512x2048) (0 : Fin 2) (N := 4) (fun b => rowAt i X1 X3 cc b.val hc (by omega))
    concatenates_S128x2048_S128x2048_S128x2048_S128x2048_S512x2048_d0
    rfl 128 rfl (ix2 n q) ⟨n.val / 128, by omega⟩ rfl (ix2 ⟨n.val % 128, by omega⟩ q) rfl fun a ha => ?_).trans ?_
  · match a with
    | 0 => exact absurd rfl ha
    | 1 => rfl
  · rw [rowAt_apply]
    congr 2
    show n.val / 128 * 128 + n.val % 128 = n.val
    omega

theorem chunkAt_apply (cc : Nat) (hc : cc < 8) (acc : FVec Ideal S384x512 .f32) (r : Fin 384) (n : Fin 512) :
    chunkAt i X1 X2 X3 cc hc acc (ix2 r n) = (acc (ix2 r n) : EReal)
      + ∑ k : Fin 2048, (X2 (ix2 r ⟨cc * 2048 + k.val, by omega⟩) : EReal) * wS i X1 X3 n ⟨cc * 2048 + k.val, by omega⟩ := by
  show (acc (ix2 r n) : EReal) + FloatOps.matmul (F := Ideal) (DotDims.transposedRhs 384 2048 512) none _ _ _ (ix2 r n) = _
  rw [Ideal.matmul_transposedRhs_apply]
  rw [show (constant (F := Ideal) S384x512 .f32 0x00000000#32 (ix2 r n)) = (0 : EReal) from Ideal.ofBits_zero_f32, zero_add]
  refine congrArg ((acc (ix2 r n) : EReal) + ·) (Finset.sum_congr rfl fun k _ => ?_)
  rw [rows_apply]
  congr 1
  refine View.ld_unit_apply_of X2 _ _ _ _ _ fun a => ?_
  match a with
  | 0 => show r.val = 0 + r.val; omega
  | 1 => rfl

/-- The products along one row of activations and one row of the scaled weight tile, by position. -/
def prods (r : Fin 384) (n : Fin 512) (k : ℕ) : EReal :=
  if h : k < 16384 then (X2 (ix2 r ⟨k, h⟩) : EReal) * wS i X1 X3 n ⟨k, h⟩ else 0

theorem accAt_apply (c : Nat) (hc : c ≤ 8) (r : Fin 384) (n : Fin 512) :
    accAt i X1 X2 X3 c hc (ix2 r n) = Online.total (prods i X1 X2 X3 r n) (c * 2048) := by
  induction c with
  | zero => rw [Nat.zero_mul, Online.total_zero]; exact Ideal.ofBits_zero_f32
  | succ c ih =>
    rw [Online.total_chunk]
    refine (chunkAt_apply i X1 X2 X3 c (by omega) _ r n).trans ?_
    rw [ih (by omega)]
    refine congrArg (_ + ·) (Finset.sum_congr rfl fun k _ => ?_)
    unfold prods
    rw [dif_pos (by omega)]

/-- The whole inner product. -/
theorem accAt_last (r : Fin 384) (n : Fin 512) :
    accAt i X1 X2 X3 8 (le_refl _) (ix2 r n) = ∑ k : Fin 16384, (X2 (ix2 r k) : EReal) * wS i X1 X3 n k := by
  rw [accAt_apply, Online.total_fin]
  refine Finset.sum_congr rfl fun k _ => ?_
  unfold prods
  rw [dif_pos k.isLt]

/-- The vocabulary entry of a column. -/
theorem colV_apply (r : Fin 384) (n : Fin 512) : colV i (ix2 r n) = BitVec.ofNat 32 (512 * (i 0).val + n.val) := by
  show BitVec.ofNat 32 (i 0).val * 512#32 + iota .tc S384x512 32 [1] iota_S384x512_d1_w32 (ix2 r n) = _
  rw [iota_single_apply]
  show BitVec.ofNat 32 (i 0).val * 512#32 + BitVec.ofNat 32 n.val = _
  rw [show (512#32 : BitVec 32) = BitVec.ofNat 32 512 from rfl, ← BitVec.ofNat_mul, ← BitVec.ofNat_add, Nat.mul_comm]

theorem slt_vocab (v : Nat) (hv : v < 16384) : (BitVec.ofNat 32 v).slt 16000#32 = decide (v < 16000) := by
  have h : (BitVec.ofNat 32 v).toInt = v := by
    rw [BitVec.toInt_eq_toNat_of_lt] <;> simp [BitVec.toNat_ofNat] <;> omega
  rw [BitVec.slt, h]
  show decide ((v : ℤ) < 16000) = _
  simp

theorem zAt_apply (r : Fin 384) (n : Fin 512) :
    zAt i X1 X2 X3 (ix2 r n) = if 512 * (i 0).val + n.val < 16000 then ∑ k : Fin 16384, (X2 (ix2 r k) : EReal) * wS i X1 X3 n k else (⊥ : EReal) := by
  have hi : (i 0).val < 32 := (i 0).isLt
  show Scalar.select (BitVec.ofBool ((colV i (ix2 r n)).slt 16000#32)) (accAt i X1 X2 X3 8 (le_refl _) (ix2 r n)) (Ideal.ofBits .f32 0xFF800000#32) = _
  rw [colV_apply, slt_vocab _ (by omega), accAt_last]
  by_cases h : 512 * (i 0).val + n.val < 16000
  · rw [if_pos h, decide_eq_true h]; rfl
  · rw [if_neg h, decide_eq_false h]
    show Ideal.ofBits .f32 0xFF800000#32 = ⊥
    simp [Ideal.ofBits, Ideal.ieee]

end Cert.LossIdeal.Hand

end
-- ==== Proof.LossIdeal.Value.lean ====
/- What the loss kernel's scratch holds after each tile, at the ideal values: the maximum, the sum of exponentials and
   the label's logit of every vocabulary entry seen so far. -/
module

public import proofs.«01_k».proof.Proof.LossIdeal.Run
public import proofs.«01_k».proof.Proof.LossIdeal.Tile
public import Idealize.ShloMosaic.Lib.ValueLayout
public import Idealize.ShloMosaic.Lib.ValueLayoutCasts
public import Idealize.ShloMosaic.Lib.Claim
public import Idealize.ShloMosaic.Lib.Pipeline.ValueKit.Geometry

@[expose] public section

set_option synthInstance.maxSize 4096
set_option maxRecDepth 16384

noncomputable section

namespace Cert.LossIdeal.Hand

open Cert.LossIdeal Cert.LossIdeal.Gen
open Idealize.ShloMosaic Idealize.ShloMosaic.TcCoe Idealize.ShloMosaic.Tactic Idealize.ShloMosaic.ValueIdx
open Idealize.ShloMosaic.Pipeline (Dat Cfg Window)
open scoped BigOperators

variable (m : (ℓ : Loc nD τ sig) → Buf (Elt Ideal) ℓ)

/-! ## The arguments -/

/-- The activations. -/
abbrev argX (c : Dev nD) : Vec Ideal S384x16384 .bf16 := m ((c : Thread nD τ).loc main_arg0)
/-- The weight codes. -/
abbrev argW (c : Dev nD) : Vec Ideal S16000x16384 .fp8e4m3 := m ((c : Thread nD τ).loc main_arg1)
/-- The weight scales. -/
abbrev argS (c : Dev nD) : Vec Ideal S125x128 .f32 := m ((c : Thread nD τ).loc main_arg2)
/-- The labels. -/
abbrev argL (c : Dev nD) : Vec Ideal S1x384 .i32 := m ((c : Thread nD τ).loc main_arg3)

theorem index_0 : ∀ t : Fin cfg0.N, win0_0.index t = ![0, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![0, 0] := by decide +kernel
theorem index_4 : ∀ t : Fin cfg0.N, win0_4.index t = ![0, 0] := by decide +kernel
theorem coords_0 : ∀ t : Fin cfg0.N, ((grid0.coords t) 0).val = t.val := by decide +kernel

theorem block_0 (c : Dev nD) (t : Fin cfg0.N) : iblk m c 0 t = argS m c := by
  funext y
  unfold argS
  rw [← V_main_arg2 m c]
  unfold iblk
  show V m c main_arg2 _ = _
  congr 1
  funext a
  apply Fin.ext
  match a with
  | 0 => blk_simp [index_0]
  | 1 => blk_simp [index_0]

theorem block_1 (c : Dev nD) (t : Fin cfg0.N) : iblk m c 1 t = argX m c := by
  funext y
  unfold argX
  rw [← V_main_arg0 m c]
  unfold iblk
  show V m c main_arg0 _ = _
  congr 1
  funext a
  apply Fin.ext
  match a with
  | 0 => blk_simp [index_1]
  | 1 => blk_simp [index_1]

/-- The labels as the column the region takes. -/
theorem entry_labels (c : Dev nD) : V m c main_v0 = shapeCast S384x1 (argL m c) Facts₀.shapeCasts_S1x384_S384x1 := by
  entry_read
  rfl

theorem block_3 (c : Dev nD) (t : Fin cfg0.N) (r : Fin 384) : iblk m c 3 t (ix2 r (0 : Fin 1)) = argL m c (ix2 (0 : Fin 1) r) := by
  have e : iblk m c 3 t (ix2 r (0 : Fin 1)) = V m c main_v0 (ix2 r (0 : Fin 1)) := by
    unfold iblk
    show V m c main_v0 _ = _
    congr 1
    funext a
    apply Fin.ext
    match a with
    | 0 => blk_simp [index_3]
    | 1 => blk_simp [index_3]
  rw [e, entry_labels]
  exact shapeCast_apply _ _ _ _ (by rw [Shape.rowMajor_val_two, Shape.rowMajor_val_two]; simp)

theorem extent_rows : ∀ t : Fin cfg0.N, win0_2.xsize (grid0.coords t) 0 = min 512 (16000 - 512 * t.val) := by decide +kernel
theorem extent_cols : ∀ t : Fin cfg0.N, win0_2.xsize (grid0.coords t) 1 = 16384 := by decide +kernel

/-- Row `n` of tile `t` inside the array is the array's row `512 t + n`. -/
theorem block_2 (c : Dev nD) (t : Fin cfg0.N) (d : Vec Ideal S512x16384 .fp8e4m3) (n : Fin 512) (k : Fin 16384) (h : 512 * t.val + n.val < 16000) :
    wTile m c t d (ix2 n k) = argW m c (ix2 ⟨512 * t.val + n.val, h⟩ k) := by
  have hm : win0_2.moved (grid0.coords t) (ix2 n k) = true := by
    rw [win0_2.moved_iff]
    intro a
    match a with
    | 0 => show n.val < win0_2.xsize (grid0.coords t) 0; rw [extent_rows]; omega
    | 1 => show k.val < win0_2.xsize (grid0.coords t) 1; rw [extent_cols]; omega
  unfold wTile
  unfold Pipeline.Window.fill
  rw [dif_pos hm]
  unfold argW
  rw [← V_main_arg1 m c]
  unfold iblk
  show V m c main_arg1 _ = _
  congr 1
  funext a
  apply Fin.ext
  match a with
  | 0 => blk_simp [index_2]; show t.val * 512 + n.val = 512 * t.val + n.val; omega
  | 1 => blk_simp [index_2]; rfl

/-! ## The logits -/

/-- The logit of vocabulary entry `v` for token `r`, minus infinity past the vocabulary. -/
def logit (c : Dev nD) (r : Fin 384) (v : ℕ) : EReal :=
  if h : v < 16000 then ∑ k : Fin 16384, (argX m c (ix2 r k) : EReal)
    * ((argW m c (ix2 ⟨v, h⟩ k) : EReal) * (argS m c (ix2 ⟨v / 128, by omega⟩ ⟨k.val / 128, by omega⟩) : EReal)) else ⊥

/-- The logit if `v` is the token's label, else zero. -/
def picked (c : Dev nD) (r : Fin 384) (v : ℕ) : EReal :=
  if BitVec.ofNat 32 v = argL m c (ix2 (0 : Fin 1) r) then logit m c r v else 0

theorem tile_logit (c : Dev nD) (t : Fin cfg0.N) (d : Vec Ideal S512x16384 .fp8e4m3) (r : Fin 384) (n : Fin 512) :
    zAt (grid0.coords t) (iblk m c 0 t) (iblk m c 1 t) (wTile m c t d) (ix2 r n) = logit m c r (512 * t.val + n.val) := by
  rw [zAt_apply, block_0, block_1, coords_0]
  unfold logit
  by_cases h : 512 * t.val + n.val < 16000
  · rw [if_pos h, dif_pos h]
    refine Finset.sum_congr rfl fun k _ => ?_
    congr 1
    unfold wS
    rw [block_2 m c t d n k h]
    congr 3
    apply Fin.ext
    show min (4 * ((grid0.coords t) 0).val + n.val / 128) 124 = (512 * t.val + n.val) / 128
    rw [coords_0]; omega
  · rw [if_neg h, dif_neg h]

/-! ## The row operations -/

theorem lift_row (r : Fin 384) (n : Fin 512) : Facts₀.reduces_S384x512_S384.lift (ix1 r) n = ix2 r n := by
  funext a
  match a with
  | 0 => rfl
  | 1 => rfl

theorem neg_inf : Ideal.ofBits .f32 0xFF800000#32 = ⊥ := by simp [Ideal.ofBits, Ideal.ieee]

variable (z : FVec Ideal S384x512 .f32) (M S L : Col Ideal) (r : Fin 384)

theorem same_apply (v : Col Ideal) : same (F := Ideal) v = v := shapeCast_self _ _

theorem colCast_apply (v : FVec Ideal S384 .f32) : colCast v (ix2 r (0 : Fin 1)) = v (ix1 r) := shapeCast_a_a1_apply _ _ _ _

theorem sum_row (x : FVec Ideal S384x512 .f32) (hφ) (hacc) :
    multiReduction .add [1] S384 x 0x00000000#32 Facts₀.reduces_S384x512_S384 hφ hacc (ix1 r) = ∑ n : Fin 512, (x (ix2 r n) : EReal) :=
  (Ideal.multiReduction_add_single x _ _ hφ hacc (ix1 r)).trans (Finset.sum_congr rfl fun n _ => congrArg x (lift_row r n))

theorem max_row (x : FVec Ideal S384x512 .f32) (hφ) (hacc) :
    multiReduction .maximumf [1] S384 x 0xFF800000#32 Facts₀.reduces_S384x512_S384 hφ hacc (ix1 r) = Finset.univ.sup fun n : Fin 512 => (x (ix2 r n) : EReal) := by
  refine (Ideal.multiReduction_maximumf_single x _ _ hφ hacc (ix1 r)).trans ?_
  show Finset.fold max (Ideal.ofBits .f32 0xFF800000#32) _ _ = _
  rw [neg_inf]
  unfold Finset.sup
  congr 1
  funext n
  exact congrArg x (lift_row r n)

theorem mV_apply : mV z M (ix2 r (0 : Fin 1)) = max (M (ix2 r (0 : Fin 1)) : EReal) (Finset.univ.sup fun n : Fin 512 => (z (ix2 r n) : EReal)) := by
  refine congrArg (max (M (ix2 r (0 : Fin 1)) : EReal)) ((colCast_apply r _).trans (max_row r z _ _))

theorem bcast_row {α : Type} (v : S384x1.Idx → α) (h : S384x1.Broadcasts S384x512) (n : Fin 512) :
    broadcastTo S384x512 v h (ix2 r n) = v (ix2 r (0 : Fin 1)) :=
  broadcastTo_apply v h _ _ fun a => by
    match a with
    | 0 => rfl
    | 1 => rfl

theorem sV_apply : sV z M S (ix2 r (0 : Fin 1)) = (S (ix2 r (0 : Fin 1)) : EReal) * Ideal.exp ((M (ix2 r (0 : Fin 1)) : EReal) - mV z M (ix2 r (0 : Fin 1)))
    + ∑ n : Fin 512, Ideal.exp ((z (ix2 r n) : EReal) - mV z M (ix2 r (0 : Fin 1))) := by
  refine congrArg ((S (ix2 r (0 : Fin 1)) : EReal) * Ideal.exp ((M (ix2 r (0 : Fin 1)) : EReal) - mV z M (ix2 r (0 : Fin 1))) + ·)
    (((colCast_apply r _).trans (sum_row r _ _ _)).trans (Finset.sum_congr rfl fun n _ => ?_))
  show Ideal.exp ((z (ix2 r n) : EReal) - broadcastTo S384x512 (mV z M) Facts₀.broadcasts_S384x1_S384x512 (ix2 r n)) = _
  rw [bcast_row]

theorem lV_apply (i : grid0.Coords) (lab : Vec Ideal S384x1 .i32) : lV i z L lab (ix2 r (0 : Fin 1)) = (L (ix2 r (0 : Fin 1)) : EReal)
    + ∑ n : Fin 512, if BitVec.ofNat 32 (512 * (i 0).val + n.val) = lab (ix2 r (0 : Fin 1)) then (z (ix2 r n) : EReal) else 0 := by
  refine congrArg ((L (ix2 r (0 : Fin 1)) : EReal) + ·) (((colCast_apply r _).trans (sum_row r _ _ _)).trans (Finset.sum_congr rfl fun n _ => ?_))
  show Scalar.select (Scalar.cmpi .eq (colV i (ix2 r n)) (broadcastTo S384x512 (shapeCast S384x1 lab Facts₀.shapeCasts_S384x1_S384x1 : IVec S384x1 32)
    Facts₀.broadcasts_S384x1_S384x512 (ix2 r n))) (z (ix2 r n)) (Ideal.ofBits .f32 0x00000000#32) = _
  rw [bcast_row, shapeCast_self, colV_apply, Ideal.ofBits_zero_f32]
  by_cases h : BitVec.ofNat 32 (512 * (i 0).val + n.val) = lab (ix2 r (0 : Fin 1))
  · rw [if_pos h, h]; show Scalar.select (BitVec.ofBool (_ == _)) _ _ = _; rw [beq_self_eq_true]; rfl
  · rw [if_neg h]; show Scalar.select (BitVec.ofBool (_ == _)) _ _ = _; rw [beq_false_of_ne h]; rfl

theorem outV_apply : outV M S L (ix2 r (0 : Fin 1)) = (M (ix2 r (0 : Fin 1)) : EReal) + Ideal.log (S (ix2 r (0 : Fin 1)) : EReal)
    - L (ix2 r (0 : Fin 1)) - Ideal.ofBits .f32 0x411AE2B0#32 := rfl

/-! ## The steps -/

/-- Before tile `t` the scratch holds the maximum, the sum of exponentials about it, and the label's logit, of the
    first `512 t` entries; before tile 0, anything. -/
def Inv (c : Dev nD) (t : ℕ) (M S L : Col Ideal) : Prop := t ≠ 0 → ∀ r : Fin 384,
  M (ix2 r (0 : Fin 1)) = Online.top (logit m c r) (512 * t)
  ∧ S (ix2 r (0 : Fin 1)) = Online.mass (logit m c r) (512 * t) (Online.top (logit m c r) (512 * t))
  ∧ L (ix2 r (0 : Fin 1)) = Online.total (picked m c r) (512 * t)

/-- The loss of token `r`. -/
def lossAt (c : Dev nD) (r : Fin 384) : EReal :=
  Online.top (logit m c r) 16384 + Ideal.log (Online.mass (logit m c r) 16384 (Online.top (logit m c r) 16384))
    - Online.total (picked m c r) 16384 - Ideal.ofBits .f32 0x411AE2B0#32

/-- The column of losses. -/
def lossCol (c : Dev nD) : Col Ideal := fun j => lossAt m c (j 0)

/-- The result's buffer is left alone before the last tile and is the losses after it. -/
def Out (c : Dev nD) (t : Fin cfg0.N) (X5 X : Col Ideal) : Prop := if t.val = 31 then X = lossCol m c else X = X5

theorem cond1_iff : ∀ t : Fin cfg0.N, cond1 (grid0.coords t) = 1#1 ↔ t.val = 0 := by decide +kernel
theorem cond2_iff : ∀ t : Fin cfg0.N, k0_cond2 (grid0.coords t) = 1#1 ↔ t.val = 31 := by decide +kernel

theorem found {c : Dev nD} {t : Fin cfg0.N} {M S L : Col Ideal} (h : Inv m c t.val M S L) (r : Fin 384) :
    mIn (grid0.coords t) M (ix2 r (0 : Fin 1)) = Online.top (logit m c r) (512 * t.val)
    ∧ zIn (grid0.coords t) S (ix2 r (0 : Fin 1)) = Online.mass (logit m c r) (512 * t.val) (Online.top (logit m c r) (512 * t.val))
    ∧ zIn (grid0.coords t) L (ix2 r (0 : Fin 1)) = Online.total (picked m c r) (512 * t.val) := by
  unfold mIn zIn
  by_cases ht : t.val = 0
  · rw [if_pos ((cond1_iff t).2 ht), if_pos ((cond1_iff t).2 ht), if_pos ((cond1_iff t).2 ht), ht, Nat.mul_zero, Online.top_zero, Online.mass_zero, Online.total_zero]
    unfold m0 z0
    rw [same_apply, same_apply]
    exact ⟨neg_inf, Ideal.ofBits_zero_f32, Ideal.ofBits_zero_f32⟩
  · rw [if_neg (mt (cond1_iff t).1 ht), if_neg (mt (cond1_iff t).1 ht), if_neg (mt (cond1_iff t).1 ht)]
    exact h ht r

theorem after {c : Dev nD} {t : Fin cfg0.N} {M S L : Col Ideal} (h : Inv m c t.val M S L) (d : Vec Ideal S512x16384 .fp8e4m3) (r : Fin 384) :
    mOut (grid0.coords t) (iblk m c 0 t) (iblk m c 1 t) (wTile m c t d) M (ix2 r (0 : Fin 1)) = Online.top (logit m c r) (512 * (t.val + 1))
    ∧ sOut (grid0.coords t) (iblk m c 0 t) (iblk m c 1 t) (wTile m c t d) M S (ix2 r (0 : Fin 1))
      = Online.mass (logit m c r) (512 * (t.val + 1)) (Online.top (logit m c r) (512 * (t.val + 1)))
    ∧ lOut (grid0.coords t) (iblk m c 0 t) (iblk m c 1 t) (wTile m c t d) L (iblk m c 3 t) (ix2 r (0 : Fin 1))
      = Online.total (picked m c r) (512 * (t.val + 1)) := by
  obtain ⟨hM, hS, hL⟩ := found m h r
  have eM : mV (zAt (grid0.coords t) (iblk m c 0 t) (iblk m c 1 t) (wTile m c t d)) (mIn (grid0.coords t) M) (ix2 r (0 : Fin 1))
      = Online.top (logit m c r) (512 * (t.val + 1)) := by
    rw [mV_apply, hM, Nat.mul_succ, Online.top_add]
    exact congrArg (max _) (Finset.sup_congr rfl fun n _ => tile_logit m c t d r n)
  unfold mOut sOut lOut
  rw [same_apply, same_apply, same_apply]
  refine ⟨eM, ?_, ?_⟩
  · rw [sV_apply, eM, hM, hS, Nat.mul_succ, Online.mass_add]
    exact congrArg (_ + ·) (Finset.sum_congr rfl fun n _ => congrArg (fun y : EReal => Ideal.exp (y - _)) (tile_logit m c t d r n))
  · rw [lV_apply, hL, Nat.mul_succ, Online.total_add]
    refine congrArg (_ + ·) (Finset.sum_congr rfl fun n _ => ?_)
    rw [block_3, coords_0, tile_logit m c t d r n]
    rfl

theorem steps : Steps m (Inv m) (Out m) := fun c t d X5 M S L h => by
  refine ⟨fun _ r => after m h d r, ?_⟩
  unfold Out oOut
  by_cases ht : t.val = 31
  · rw [if_pos ht, if_pos ((cond2_iff t).2 ht)]
    funext j
    obtain ⟨r, u, rfl⟩ : ∃ (r : Fin 384) (u : Fin 1), j = ix2 r u := ⟨j 0, j 1, eq_ix2 j⟩
    obtain rfl : u = 0 := Subsingleton.elim _ _
    obtain ⟨hM, hS, hL⟩ := after m h d r
    have h512 : 512 * (t.val + 1) = 16384 := by omega
    rw [h512] at hM hS hL
    rw [outV_apply]
    rw [hM, hS, hL]
    rfl
  · rw [if_neg ht, if_neg (mt (cond2_iff t).1 ht)]

end Cert.LossIdeal.Hand

end
-- ==== Proof.LossIdeal.Exact.lean ====
/- The idealized loss kernel's run: the result's array ends as the column of losses, the arguments end unchanged, every
   semaphore at zero. -/
module

public import proofs.«01_k».proof.Proof.LossIdeal.Value

@[expose] public section

set_option synthInstance.maxSize 4096
set_option maxRecDepth 16384

noncomputable section

namespace Cert.LossIdeal.Hand

open Cert.LossIdeal Cert.LossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The data of the run. -/
abbrev edats (p : Fin 1) (c : Dev nD) : Dat τ (Elt Ideal) Unit ℕ (UR sig nD τ) ℕ (cfgs p) c :=
  dats m (Inv m) (lossCol m) p c

/-- The result's buffer handed back: as found before the last point, the losses after it. -/
theorem back_4 (c : Dev nD) (t : Fin cfg0.N) (d) :
    iprop(∃ X, ⌜Out m c t ((edats m 0 c).before (4 : Fin 5) t d) X⌝ ∗ owns (c : Thread nD τ) (st0_4 t) fullShare X)
      ⊢ (match cfg0.idle 4 (cfg0.grid.coords t) with
        | true =>
          match (cfg0.win 4).flush t with
          | false => iprop(∃ d, owns (c : Thread nD τ) (st0_4 t) fullShare ((edats m 0 c).before (4 : Fin 5) t d))
          | true => owns (c : Thread nD τ) (st0_4 t) fullShare ((edats m 0 c).after (4 : Fin 5) t)
        | false => owns (c : Thread nD τ) (st0_4 t) fullShare ((edats m 0 c).after (4 : Fin 5) t) : sProp 𝕄) := by
  have hi : cfg0.idle 4 (cfg0.grid.coords t) = !(k0_cond2 (grid0.coords t) == 1#1) := rfl
  unfold Out
  by_cases h : t.val = 31
  · have e : cfg0.idle 4 (cfg0.grid.coords t) = false := by rw [hi, (cond2_iff t).2 h]; rfl
    rw [e]
    simp only [if_pos h]
    iintro ⟨%X, %hX, H⟩
    subst hX
    iexact H
  · have e : cfg0.idle 4 (cfg0.grid.coords t) = true := by
      rw [hi, beq_false_of_ne (mt (cond2_iff t).1 h)]; rfl
    have f : (cfg0.win 4).flush t = false := by
      rw [Bool.eq_false_iff]
      exact fun hf => h (by have := (flush0_4 t).1 hf; have : t.val < 32 := t.isLt; omega)
    rw [e, f]
    simp only [if_neg h]
    iintro ⟨%X, %hX, H⟩
    subst hX
    iexists d
    iexact H

theorem obligation (c : Dev nD) : BodyObligationLoose (edats m 0 c) (defs₀ (F := Ideal)) Variants.none () Set.univ := fun t => by
  rw [bigSep_W0, bigSep_W0]
  simp only
  rw [show (edats m 0 c).owesAt () t.succ = (edats m 0 c).owesAt () t.castSucc from rfl]
  iintro ⟨HΦ, Ho, ⟨%d0, H0⟩, ⟨%d1, H1⟩, ⟨%d2, H2⟩, ⟨%d3, H3⟩, ⟨%d4, H4⟩⟩
  rw [before_0, before_1, before_2, before_3]
  have hp := point m (lossCol m) (steps m) c t d2 ((edats m 0 c).before (4 : Fin 5) t d4) ((edats m 0 c).owesAt () t.castSucc)
  have hpost : ∀ u : PUnit, iprop((edats m 0 c).Φ t.succ ∗ (edats m 0 c).owesAt () t.castSucc
      ∗ owns (c : Thread nD τ) (st0_0 t) fullShare (iblk m c 0 t) ∗ owns (c : Thread nD τ) (st0_1 t) fullShare (iblk m c 1 t)
      ∗ owns (c : Thread nD τ) (st0_2 t) fullShare (wTile m c t d2) ∗ owns (c : Thread nD τ) (st0_3 t) fullShare (iblk m c 3 t)
      ∗ ∃ X, ⌜Out m c t ((edats m 0 c).before (4 : Fin 5) t d4) X⌝ ∗ owns (c : Thread nD τ) (st0_4 t) fullShare X)
      ⊢ iprop((edats m 0 c).Φ t.succ ∗ (edats m 0 c).owesAt () t.castSucc
      ∗ owns (c : Thread nD τ) (st0_0 t) fullShare (iblk m c 0 t) ∗ owns (c : Thread nD τ) (st0_1 t) fullShare (iblk m c 1 t)
      ∗ (∃ d, owns (c : Thread nD τ) (st0_2 t) fullShare
          (win0_2.fill (grid0.coords t) d (win0_2.cut (grid0.coords t) ((edats m 0 c).after (2 : Fin 5) t))))
      ∗ owns (c : Thread nD τ) (st0_3 t) fullShare (iblk m c 3 t)
      ∗ (match cfg0.idle 4 (cfg0.grid.coords t) with
        | true =>
          match (cfg0.win 4).flush t with
          | false => iprop(∃ d, owns (c : Thread nD τ) (st0_4 t) fullShare ((edats m 0 c).before (4 : Fin 5) t d))
          | true => owns (c : Thread nD τ) (st0_4 t) fullShare ((edats m 0 c).after (4 : Fin 5) t)
        | false => owns (c : Thread nD τ) (st0_4 t) fullShare ((edats m 0 c).after (4 : Fin 5) t))) := fun _ => by
    iintro ⟨HΦ, Ho, H0, H1, H2, H3, H4⟩
    isplitl [HΦ]; · iexact HΦ
    isplitl [Ho]; · iexact Ho
    isplitl [H0]; · iexact H0
    isplitl [H1]; · iexact H1
    isplitl [H2]
    · iapply (back_2 m (lossCol m) (Inv := Inv m) c t d2)
      iexact H2
    isplitl [H3]; · iexact H3
    iapply (back_4 m c t d4)
    iexact H4
  iapply (hp.trans (wp_mono _ _ _ hpost))
  isplitl [HΦ]; · iexact HΦ
  isplitl [Ho]; · iexact Ho
  isplitl [H0]; · iexact H0
  isplitl [H1]; · iexact H1
  isplitl [H2]; · iexact H2
  isplitl [H3]; · iexact H3
  iexact H4

theorem run_exact : θ_run defs (onTc (τ := τ) (main (F := Ideal))) (s₀ m ρ)
    (fun r => Pipeline.FramePost cfgs (edats m) 0 (V m) r ∧ r.2.sem = fun _ => 0) :=
  Pipeline.θ_run_frame_track cfgs (edats m) 0 launch0 defs₀ Variants.none m ρ main
    (hbody := obligation m) (hshare := fun c => (edats m 0 c).share_full fun _ => rfl) (howed := fun _ _ => rfl)
    (V := V m) (hmain := hmain m _) (hA := fun _ _ => rfl)
    (hin := enter m _ (fun _ _ _ _ h => absurd rfl h)) (hout := leave m _) (Q' := _) (hQ' := fun _ h => h)

/-- The point whose write-back leaves the result. -/
def lastPoint : Fin cfg0.N := ⟨31, by decide⟩

/-- The result's array is the column of losses when the run ends. -/
theorem result (c : Dev nD) : (edats m 0 c).arrAt 4 cfg0.N = lossCol m c := by
  funext j
  have hj : ((cfg0.win 4).blk lastPoint).view.emb j = j := by
    funext a
    apply Fin.ext
    match a with
    | 0 => blk_simp [index_4]
    | 1 => blk_simp [index_4]
  have hf := (edats m 0 c).arrAt_emb_eq_flushed 4 (fun t t' h h' hne => absurd (Fin.ext (by
    have := (flush0_4 t).1 h; have := (flush0_4 t').1 h'; have : t.val < 32 := t.isLt; have : t'.val < 32 := t'.isLt; omega)) hne)
    lastPoint ((flush0_4 lastPoint).2 rfl) j
  rw [hj] at hf
  exact hf

/-- The run: the losses, the arguments unchanged, the semaphores at zero. -/
theorem value : θ_run defs (onTc (τ := τ) (main (F := Ideal))) ⟨m, fun _ => 0, ρ⟩ (fun r => (∀ c : Dev nD,
      r.2.mem ((c.tc : Thread nD τ).loc main_v1) = lossCol m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
    ⟨((h.1 c).1 4).trans (result m c),
      ((h.1 c).1 1).trans (((edats m 0 c).arrAt_in 1 rfl _).trans (V_main_arg0 m c)),
      ((h.1 c).1 2).trans (((edats m 0 c).arrAt_in 2 rfl _).trans (V_main_arg1 m c)),
      ((h.1 c).1 0).trans (((edats m 0 c).arrAt_in 0 rfl _).trans (V_main_arg2 m c)),
      ((h.1 c).2 main_arg3 (Pipeline.mem_restRefs_of main_arg3 (by decide) (by decide))).trans (V_main_arg3 m c)⟩, h.2⟩)
    (run_exact m ρ)

end Cert.LossIdeal.Hand

end
-- ==== Proof.LossRefIdeal.Value.lean ====
/- The reference loss at the ideal values, read at one token: the largest logit plus the logarithm of the sum of
   exponentials below it, less the label's logit, less the constant. -/
module

public import proofs.«01_k».proof.Proof.Gen.LossRefIdeal.Read
public import Idealize.ShloMosaic.Lib.ValueLayout
public import Idealize.ShloMosaic.Lib.KernelVsHost
public import Idealize.ShloMosaic.Lib.Pipeline.ValueKit.Geometry

@[expose] public section

set_option synthInstance.maxSize 4096
set_option maxRecDepth 16384

noncomputable section

namespace Cert.LossRefIdeal.Hand

open Cert.LossRefIdeal Cert.LossRefIdeal.Gen Cert.LossRefIdeal.Read
open Idealize.ShloMosaic Idealize.ShloMosaic.TcCoe Idealize.ShloMosaic.Tactic Idealize.ShloMosaic.ValueIdx
open Idealize.ShloMosaic.Pipeline (Dat Cfg Window)
open scoped BigOperators

variable (m : (ℓ : Loc nD τ sig) → Buf (Elt Ideal) ℓ)

/-- The region's one point. -/
def point : Fin cfg0.N := ⟨0, by decide⟩

theorem index_0 : win0_0.index point = ![0, 0] := by decide +kernel
theorem index_1 : win0_1.index point = ![0, 0] := by decide +kernel

/-- The block of the region's operand is the whole array of weight codes. -/
theorem block_codes (c : Dev nD) : iblk m c 0 point = (m ((c : Thread nD τ).loc main_arg1) : Vec Ideal S16000x16384 .fp8e4m3) := by
  funext y
  rw [← V_main_arg1 m c]
  unfold iblk
  show V m c main_arg1 _ = _
  congr 1
  funext a
  apply Fin.ext
  match a with
  | 0 => blk_simp [index_0]
  | 1 => blk_simp [index_0]

/-- What the region stores is its operand: widening changes no value here. -/
theorem widened (x : Vec Ideal S16000x16384 .fp8e4m3) : (out0_1 x : S16000x16384.Idx → EReal) = x := by
  have h0 : (![0, 0] : Fin 2 → ℕ) = fun _ => 0 := funext fun a => by match a with | 0 => rfl | 1 => rfl
  unfold out0_1
  rw [View.canon_unit_zero h0, View.ld_unit_zero h0]
  rfl

/-- What the region leaves in its result's buffer is the weight codes' values. -/
theorem stored (c : Dev nD) : ((dats m 0 c).after 1 point : S16000x16384.Idx → EReal)
    = (m ((c : Thread nD τ).loc main_arg1) : Vec Ideal S16000x16384 .fp8e4m3) := by
  rw [after0_1, block_codes]
  exact widened _

/-- The region leaves the weight codes' values. -/
theorem region (c : Dev nD) (j : S16000x16384.Idx) :
    (Value.reg_main_v0 m c j : EReal) = (m ((c : Thread nD τ).loc main_arg1) : Vec Ideal S16000x16384 .fp8e4m3) j := by
  have hj : ((cfg0.win 1).blk point).view.emb j = j := by
    funext a
    apply Fin.ext
    match a with
    | 0 => blk_simp [index_1]
    | 1 => blk_simp [index_1]
  have hf := (dats m 0 c).arrAt_emb_eq_flushed 1 (fun t t' h h' hne => absurd (Fin.ext (by
    have : t.val < 1 := t.isLt; have : t'.val < 1 := t'.isLt; omega)) hne) point (flush0_1 point) j
  rw [hj] at hf
  have hx : (cfg0.win 1).xinj (cfg0.grid.coords point) j = j := by
    funext a
    match a with
    | 0 => rfl
    | 1 => rfl
  have hs := congrFun (stored m c) ((cfg0.win 1).xinj (cfg0.grid.coords point) j)
  rw [hx] at hs
  unfold Dat.flushed Pipeline.Window.cut at hf
  rw [hx] at hf
  exact Eq.trans hf hs

variable (x0 : Vec Ideal S384x16384 .bf16) (x2 : Vec Ideal S125x128 .f32) (x3 : Vec Ideal S1x384 .i32) (r0 : Vec Ideal S16000x16384 .bf16)

/-- The logit of vocabulary entry `v` for token `r`. -/
def dotAt (r : Fin 384) (v : Fin 16000) : EReal :=
  ∑ k : Fin 16384, (x0 (ix2 r k) : EReal) * ((r0 (ix2 v k) : EReal) * (x2 (ix2 ⟨v.val / 128, by omega⟩ ⟨k.val / 128, by omega⟩) : EReal))

theorem weight_apply (v : Fin 16000) (k : Fin 16384) :
    (val_main_v6 (F := Ideal) x2 r0 (ix2 v k) : EReal) = (r0 (ix2 v k) : EReal) * (x2 (ix2 ⟨v.val / 128, by omega⟩ ⟨k.val / 128, by omega⟩) : EReal) := by
  rw [val_main_v6_apply, val_main_v5_apply, val_main_v1_apply, val_main_v4_apply, val_main_v3_apply, val_main_v2_apply]
  refine congrArg₂ (fun a b : EReal => a * b) (congrArg r0 (funext fun a => Fin.ext ?_)) (congrArg x2 (funext fun a => Fin.ext ?_))
  · have hv := v.isLt
    have hk := k.isLt
    match a with
    | 0 =>
      show ((((v.val * 16384 + k.val) / 2097152 * 128 + (v.val * 16384 + k.val) / 16384 % 128) * 128 + (v.val * 16384 + k.val) / 128 % 128) * 128 + (v.val * 16384 + k.val) % 128) / 16384 = v.val
      omega
    | 1 =>
      show ((((v.val * 16384 + k.val) / 2097152 * 128 + (v.val * 16384 + k.val) / 16384 % 128) * 128 + (v.val * 16384 + k.val) / 128 % 128) * 128 + (v.val * 16384 + k.val) % 128) % 16384 = k.val
      omega
  · have hv := v.isLt
    have hk := k.isLt
    match a with
    | 0 => show (v.val * 16384 + k.val) / 2097152 = v.val / 128; omega
    | 1 => show (v.val * 16384 + k.val) / 128 % 128 = k.val / 128; omega

theorem logits_apply (r : Fin 384) (v : Fin 16000) : (val_main_v7 (F := Ideal) x0 x2 r0 (ix2 r v) : EReal) = dotAt x0 x2 r0 r v := by
  rw [val_main_v7_apply]
  unfold dotAt
  refine Finset.sum_congr rfl fun k _ => ?_
  have e1 : lidx_main_v7 (ix2 r v) k = ix2 r k := funext fun a => by match a with | 0 => rfl | 1 => rfl
  have e2 : ridx_main_v7 (ix2 r v) k = ix2 v k := funext fun a => by match a with | 0 => rfl | 1 => rfl
  rw [e1, e2, weight_apply]

theorem neg_inf : Ideal.ofBits .f32 0xFF800000#32 = ⊥ := by simp [Ideal.ofBits, Ideal.ieee]

theorem zero_add_of {z a b : EReal} (hz : z = 0) (h : a = b) : z + a = b := by rw [hz, h, zero_add]

theorem exp_sub_of {a b : Ideal .f32} {a' b' : EReal} (ha : (a : EReal) = a') (hb : (b : EReal) = b') :
    FloatOps.hostUnary (F := Ideal) (φ := .f32) .exp (FloatOps.subf a b) = Ideal.exp (a' - b') := by rw [← ha, ← hb]; rfl

/-- A fold of maxima from minus infinity is the supremum. -/
theorem fold_eq_sup {ι : Type} [Fintype ι] (f g : ι → EReal) (h : ∀ i, f i = g i) : Finset.univ.fold max ⊥ f = Finset.univ.sup g := by
  rw [funext h]; rfl

theorem reduces : S384x16000.Reduces [1] S384 := by decide

theorem lift_row (r : Fin 384) (v : Fin 16000) : reduces.lift (ix1 r) v = ix2 r v := by
  funext a
  match a with
  | 0 => rfl
  | 1 => rfl

theorem top_apply (r : Fin 384) : (val_main_v8 (F := Ideal) x0 x2 r0 (ix1 r) : EReal) = Finset.univ.sup fun v : Fin 16000 => dotAt x0 x2 r0 r v := by
  unfold val_main_v8 val_main_cst
  rw [hostReduce_maximumf_eq_multiReduction _ _ _ _ reduces (by decide) (by decide)]
  refine (Ideal.multiReduction_maximumf_single (val_main_v7 (F := Ideal) x0 x2 r0) _ _ _ _ (ix1 r)).trans ?_
  show Finset.fold max (Ideal.ofBits .f32 0xFF800000#32) _ _ = _
  rw [neg_inf]
  refine fold_eq_sup _ _ fun v => ?_
  exact (congrArg (val_main_v7 (F := Ideal) x0 x2 r0) (lift_row r v)).trans (logits_apply x0 x2 r0 r v)

theorem mass_apply (r : Fin 384) : (val_main_v13 (F := Ideal) x0 x2 r0 (ix1 r) : EReal)
    = ∑ v : Fin 16000, Ideal.exp (dotAt x0 x2 r0 r v - Finset.univ.sup fun v : Fin 16000 => dotAt x0 x2 r0 r v) := by
  rw [val_main_v13_apply, val_main_cst_0_apply]
  refine zero_add_of Ideal.ofBits_zero_f32 (Finset.sum_congr rfl fun v _ => ?_)
  have e1 : idx_main_v13 (ix1 r) v = ix2 r v := funext fun a => by match a with | 0 => rfl | 1 => rfl
  have e2 : idx_main_v9 (idx_main_v10 (ix2 r v)) = ix1 r := funext fun a => by match a with | 0 => rfl
  rw [e1, val_main_v12_apply, val_main_v11_apply, val_main_v10_apply, val_main_v9_apply, e2]
  exact exp_sub_of (logits_apply x0 x2 r0 r v) (top_apply x0 x2 r0 r)

theorem picked_apply (r : Fin 384) : (val_main_v22 (F := Ideal) x0 x2 x3 r0 (ix1 r) : EReal)
    = ∑ v : Fin 16000, if BitVec.ofNat 32 v.val = x3 (ix2 (0 : Fin 1) r) then dotAt x0 x2 r0 r v else 0 := by
  rw [val_main_v22_apply, val_main_cst_2_apply]
  refine zero_add_of Ideal.ofBits_zero_f32 (Finset.sum_congr rfl fun v _ => ?_)
  have e1 : idx_main_v22 (ix1 r) v = ix2 r v := funext fun a => by match a with | 0 => rfl | 1 => rfl
  have e2 : idx_main_v18 (idx_main_v19 (ix2 r v)) = ix2 (0 : Fin 1) r := funext fun a => Fin.ext (by
    have hr := r.isLt
    match a with | 0 => rfl | 1 => show (r.val * 1 + 0) % 384 = r.val; omega)
  rw [e1, val_main_v21_apply, val_main_v20_apply, val_main_v17_apply, val_main_v19_apply, val_main_v18_apply, e2, val_main_call0_v1_apply,
    val_main_call0_v0_apply, val_main_cst_1_apply]
  show Scalar.select (BitVec.ofBool (BitVec.ofNat 32 v.val == x3 (ix2 (0 : Fin 1) r))) (val_main_v7 (F := Ideal) x0 x2 r0 (ix2 r v)) (Ideal.ofBits .f32 0#32) = _
  rw [Ideal.ofBits_zero_f32]
  by_cases h : BitVec.ofNat 32 v.val = x3 (ix2 (0 : Fin 1) r)
  · rw [if_pos h, beq_iff_eq.2 h]; exact logits_apply x0 x2 r0 r v
  · rw [if_neg h, beq_false_of_ne h]; rfl

/-- The reference's loss of token `r`. -/
theorem loss_apply (r : Fin 384) : (val_main_v26 (F := Ideal) x0 x2 x3 r0 (ix2 r (0 : Fin 1)) : EReal)
    = (Finset.univ.sup fun v : Fin 16000 => dotAt x0 x2 r0 r v)
      + Ideal.log (∑ v : Fin 16000, Ideal.exp (dotAt x0 x2 r0 r v - Finset.univ.sup fun v : Fin 16000 => dotAt x0 x2 r0 r v))
      - (∑ v : Fin 16000, if BitVec.ofNat 32 v.val = x3 (ix2 (0 : Fin 1) r) then dotAt x0 x2 r0 r v else 0)
      - Ideal.ofBits .f32 0x411AE2B0#32 := by
  have e9 : idx_main_v9 (ix2 r (0 : Fin 1)) = ix1 r := funext fun a => by match a with | 0 => rfl
  have e14 : idx_main_v14 (ix2 r (0 : Fin 1)) = ix1 r := funext fun a => by match a with | 0 => rfl
  have e23 : idx_main_v23 (ix2 r (0 : Fin 1)) = ix1 r := funext fun a => by match a with | 0 => rfl
  rw [val_main_v26_apply, val_main_v24_apply, val_main_v16_apply, val_main_v9_apply, val_main_v15_apply, val_main_v14_apply, val_main_v23_apply,
    val_main_v25_apply, val_main_cst_3_apply, e9, e14, e23]
  refine congrArg₂ (fun a b : EReal => a - b) (congrArg₂ (fun a b : EReal => a - b) (congrArg₂ (fun a b : EReal => a + b)
    (top_apply x0 x2 r0 r) (congrArg Ideal.log (mass_apply x0 x2 r0 r))) (picked_apply x0 x2 x3 r0 r)) rfl

end Cert.LossRefIdeal.Hand

end
-- ==== Proof.Algebraic.lean ====
/- The idealized loss kernel and the reference compute the same losses, for labels in the vocabulary. -/
module

public import proofs.«01_k».proof.Defs
public import proofs.«01_k».proof.Proof.Gen.Pre_labels_in_vocab
public import proofs.«01_k».proof.Proof.LossIdeal.Exact
public import proofs.«01_k».proof.Proof.LossRefIdeal.Value

@[expose] public section

set_option synthInstance.maxSize 4096

noncomputable section

namespace Cert.Algebraic

open Idealize.ShloMosaic Idealize.ShloMosaic.TcCoe Idealize.ShloMosaic.ValueIdx Idealize.SL.Sem
open Cert.LossIdeal.Hand (argX argW argS argL logit picked lossAt lossCol)
open Cert.LossRefIdeal.Hand (dotAt)
open scoped BigOperators

variable (m : (ℓ : Loc Cert.LossIdeal.nD Cert.LossIdeal.τ Cert.LossIdeal.sig) → Buf (Elt Ideal) ℓ)

/-- No label is a padding entry of the last tile. -/
theorem not_padding (h : Cert.Pre_LossIdeal_labels_in_vocab m) (c : Dev Cert.LossIdeal.nD) (r : Fin 384) (v : ℕ) (h1 : 16000 ≤ v) (h2 : v < 16384) :
    BitVec.ofNat 32 v ≠ argL m c (ix2 (0 : Fin 1) r) := by
  intro e
  have hp : BitVec.ofBool ((argL m c (ix2 (0 : Fin 1) r)).slt 16000#32) = 1#1 := congrFun (h c) (ix2 (0 : Fin 1) r)
  rw [← e, Cert.LossIdeal.Hand.slt_vocab v h2, decide_eq_false (by omega)] at hp
  exact absurd hp (by decide)

theorem logit_past (c : Dev Cert.LossIdeal.nD) (r : Fin 384) (v : ℕ) (h : 16000 ≤ v) : logit m c r v = ⊥ := dif_neg (by omega)

/-- Inside the vocabulary the two programs' logits are the same sum. -/
theorem logit_eq (c : Dev Cert.LossIdeal.nD) (r : Fin 384) (v : Fin 16000) : logit m c r v.val = dotAt (argX m c) (argS m c) (argW m c) r v := dif_pos v.isLt

/-- The kernel's loss as sums over the vocabulary alone. -/
theorem loss_eq (h : Cert.Pre_LossIdeal_labels_in_vocab m) (c : Dev Cert.LossIdeal.nD) (r : Fin 384) : lossAt m c r
    = (Finset.univ.sup fun v : Fin 16000 => dotAt (argX m c) (argS m c) (argW m c) r v)
      + Ideal.log (∑ v : Fin 16000, Ideal.exp (dotAt (argX m c) (argS m c) (argW m c) r v
        - Finset.univ.sup fun v : Fin 16000 => dotAt (argX m c) (argS m c) (argW m c) r v))
      - (∑ v : Fin 16000, if BitVec.ofNat 32 v.val = argL m c (ix2 (0 : Fin 1) r) then dotAt (argX m c) (argS m c) (argW m c) r v else 0)
      - Ideal.ofBits .f32 0x411AE2B0#32 := by
  have e1 : Online.top (logit m c r) 16384 = Finset.univ.sup fun v : Fin 16000 => dotAt (argX m c) (argS m c) (argW m c) r v :=
    (Online.top_masked (logit m c r) 16000 384 (logit_past m c r)).trans ((Online.top_fin _ _).trans (Finset.sup_congr rfl fun v _ => logit_eq m c r v))
  have e2 (M : EReal) : Online.mass (logit m c r) 16384 M = ∑ v : Fin 16000, Ideal.exp (dotAt (argX m c) (argS m c) (argW m c) r v - M) :=
    (Online.mass_masked (logit m c r) 16000 384 M (logit_past m c r)).trans
      ((Online.mass_fin _ _ _).trans (Finset.sum_congr rfl fun v _ => by rw [logit_eq m c r v]))
  have e3 : Online.total (picked m c r) 16384
      = ∑ v : Fin 16000, if BitVec.ofNat 32 v.val = argL m c (ix2 (0 : Fin 1) r) then dotAt (argX m c) (argS m c) (argW m c) r v else 0 :=
    (Online.total_masked (picked m c r) 16000 384 (fun v h1 h2 => if_neg (not_padding m h c r v h1 h2))).trans
      ((Online.total_fin _ _).trans (Finset.sum_congr rfl fun v _ => by unfold picked; rw [logit_eq m c r v]))
  unfold lossAt
  rw [e2, e3, e1]

variable (m' : (ℓ : Loc Cert.LossRefIdeal.nD Cert.LossRefIdeal.τ Cert.LossRefIdeal.sig) → Buf (Elt Ideal) ℓ)

/-- What the reference's region leaves can be read as the weight codes in every logit. -/
theorem dot_region (x : Vec Ideal Cert.LossIdeal.S384x16384 .bf16) (s : Vec Ideal Cert.LossIdeal.S125x128 .f32) (c : Dev Cert.LossRefIdeal.nD) (w : Vec Ideal Cert.LossIdeal.S16000x16384 .fp8e4m3)
    (hw : m' ((c.tc : Thread Cert.LossRefIdeal.nD Cert.LossRefIdeal.τ).loc Cert.LossRefIdeal.main_arg1) = w) (r : Fin 384) :
    dotAt x s (Cert.LossRefIdeal.Value.reg_main_v0 m' c) r = dotAt x s w r := by
  funext v
  unfold dotAt
  refine Finset.sum_congr rfl fun k _ => ?_
  rw [Cert.LossRefIdeal.Hand.region, hw]

/-- The reference's loss of token `r` is the kernel's. -/
theorem ref_at (h : Cert.Pre_LossIdeal_labels_in_vocab m) (c : Dev Cert.LossIdeal.nD)
    (h1 : m' ((c.tc : Thread Cert.LossRefIdeal.nD Cert.LossRefIdeal.τ).loc Cert.LossRefIdeal.main_arg1) = argW m c) (r : Fin 384) :
    Cert.LossRefIdeal.Read.val_main_v26 (F := Ideal) (argX m c) (argS m c) (argL m c) (Cert.LossRefIdeal.Value.reg_main_v0 m' c) (ix2 r (0 : Fin 1))
      = lossAt m c r := by
  refine (Cert.LossRefIdeal.Hand.loss_apply (argX m c) (argS m c) (argL m c) (Cert.LossRefIdeal.Value.reg_main_v0 m' c) r).trans ?_
  rw [dot_region m' (argX m c) (argS m c) c (argW m c) h1]
  exact (loss_eq m h c r).symm

/-- The reference's last value is the kernel's column of losses. -/
theorem ref_eq (h : Cert.Pre_LossIdeal_labels_in_vocab m) (c : Dev Cert.LossIdeal.nD)
    (h1 : m' ((c.tc : Thread Cert.LossRefIdeal.nD Cert.LossRefIdeal.τ).loc Cert.LossRefIdeal.main_arg1) = argW m c) :
    Cert.LossRefIdeal.Read.val_main_v26 (F := Ideal) (argX m c) (argS m c) (argL m c) (Cert.LossRefIdeal.Value.reg_main_v0 m' c) = lossCol m c := by
  funext j
  have hj : j = ix2 (j 0) (0 : Fin 1) := funext fun a => Fin.ext (by
    match a with
    | 0 => rfl
    | 1 => have : (j 1).val < 1 := (j 1).isLt; show (j 1).val = 0; omega)
  refine (congrArg (Cert.LossRefIdeal.Read.val_main_v26 (F := Ideal) (argX m c) (argS m c) (argL m c) (Cert.LossRefIdeal.Value.reg_main_v0 m' c)) hj).trans ?_
  exact ref_at m m' h c h1 (j 0)

theorem algebraic : Cert.algebraic_LossIdeal_LossRefIdeal_pre_labels_in_vocab := by
  intro m g m' g' hpre hagree
  refine ⟨lossCol m, (θ_run _ _ _).mono (fun r h => h.1) (Cert.LossIdeal.Hand.value m g),
    (θ_run _ _ _).mono (fun r h c => ⟨(h c).1.trans ?_, (h c).2⟩) (Cert.LossRefIdeal.Value.run m' g')⟩
  obtain ⟨h0, h1, h2, h3⟩ := hagree c
  refine Eq.trans ?_ (ref_eq m m' hpre c h1)
  unfold argX argS argL
  rw [← h0, ← h2, ← h3]
  rfl

end Cert.Algebraic

end
-- ==== Proof.Rows.lean ====
/- One group of 128 values and what its quantisation is: the largest magnitude, the exponent field of that over 448,
   the power-of-two scale and its inverse, the codes and the values the codes stand for. All of it word for word. -/
module

public import Idealize.ShloMosaic.PureOps.Reduce
public import Idealize.ShloMosaic.Lib.LaneSum
public import Idealize.ShloMosaic.Lib.ValueIdx
public import Idealize.ShloMosaic.Lib.ValueLayout
public import Idealize.ShloMosaic.Lib.ValueLayoutCasts
public import Idealize.ShloMosaic.Lib.Pipeline.Value

@[expose] public section

set_option synthInstance.maxSize 4096

noncomputable section

namespace Cert.Rows

open Idealize.ShloMosaic Idealize.ShloMosaic.ValueIdx

/-- A maximum, or any other fold, along the lanes of a two-axis array, at a row: the fold over the row's lanes in order. -/
theorem reduceFold_lanes {α : Type} {a b : Nat} (h : (⟨2, ![a, b]⟩ : Shape).Reduces [1] ⟨1, ![a]⟩) (f : α → α → α) (init : α)
    (x : (⟨2, ![a, b]⟩ : Shape).Idx → α) (r : Fin a) :
    reduceFold h f init x (ix1 r) = (List.finRange b).foldl (fun acc k => f acc (x (ix2 r k))) init := by
  rw [reduceFold_eq_foldl]
  have e := Bits.XluNumerics.fiber_row h (ix1 r)
  unfold Bits.XluNumerics.fiber at e
  rw [e, List.foldl_map]
  refine congrArg (fun g => List.foldl g init (List.finRange b)) (funext fun acc => funext fun k => congrArg (fun i => f acc (x i)) ?_)
  exact pair_eq_ix2 (n0 := a) (n1 := b) _ _

variable {F : FTy → Type} [BitOps F]

/-- A column copied along the lanes, at a row and a lane: the column at the row. -/
theorem broadcastTo_column {α : Type} {a b : Nat} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    have hp := p.isLt
    by_cases ha : a = 1
    · rw [if_pos ha]; omega
    · rw [if_neg ha]
  | ⟨1, _⟩ => rfl

/-- The largest magnitude of a group. -/
def top (u : Fin 128 → F .bf16) : F .f32 :=
  (List.finRange 128).foldl (fun acc k => FloatOps.maximumf acc (FloatOps.absf (FloatOps.extf .f32 (by decide) (u k)))) (FloatOps.ofBits .f32 0xFF800000#32)

/-- The exponent field of the largest magnitude over 448. -/
def field (u : Fin 128 → F .bf16) : BitVec 32 :=
  IntOp.shrui .vector (BitOps.toBits (FloatOps.mulf (top u) (Scalar.ofBits .f32 0x3B124925#32))) 23#32

/-- The column of exponent fields, for any number of rows. -/
theorem field_column {n : Nat} (v : Vec F ⟨2, ![n, 128]⟩ .bf16) (hs : (⟨2, ![n, 128]⟩ : Shape).ShapeCasts ⟨2, ![n, 128]⟩)
    (hb : FTy.bf16.bits < FTy.f32.bits) (hr : (⟨2, ![n, 128]⟩ : Shape).Reduces [1] ⟨1, ![n]⟩) (hφ : FKind.Formats FTy.f32)
    (hacc : (0xFF800000#32 : BitVec FTy.f32.bits) = FKind.maximumf.neutral .f32 hφ) (hc : (⟨1, ![n]⟩ : Shape).ShapeCasts ⟨2, ![n, 1]⟩) (r : Fin n) :
    (shrui (bitcastToInt (mulf (shapeCast ⟨2, ![n, 1]⟩ (multiReduction .maximumf [1] ⟨1, ![n]⟩ (absf (extf .f32 (shapeCast ⟨2, ![n, 128]⟩ v hs) hb)) 0xFF800000#32 hr hφ hacc) hc)
      (broadcast _ (Scalar.ofBits .f32 0x3B124925#32)))) (broadcast _ 23#32) : IVec ⟨2, ![n, 1]⟩ 32) (ix2 r (0 : Fin 1)) = field fun k => v (ix2 r k) := by
  rw [shapeCast_self]
  show IntOp.shrui .vector (BitOps.toBits (FloatOps.mulf (shapeCast ⟨2, ![n, 1]⟩ (reduceFold hr FloatOps.maximumf (FloatOps.ofBits .f32 0xFF800000#32) (absf (extf .f32 v hb))) hc (ix2 r (0 : Fin 1))) (Scalar.ofBits .f32 0x3B124925#32))) 23#32 = _
  rw [shapeCast_a_a1_apply, reduceFold_lanes]
  rfl

/-- The exponent, one below the scale's field: 126 stands in for the field zero. -/
def expo (f : BitVec 32) : BitVec 32 := Scalar.select (IntOp.cmpi .eq f 0#32) 126#32 f

/-- The scale of a group: the smallest power of two at or above the largest magnitude over 448. -/
def scale (u : Fin 128 → F .bf16) : F .f32 := FloatOps.ofBits .f32 (IntOp.shli .vector (IntOp.addi (expo (field u)) 1#32) 23#32)

/-- The power of two a group is multiplied by. -/
def inverse (u : Fin 128 → F .bf16) : F .f32 := FloatOps.ofBits .f32 (IntOp.shli .vector (IntOp.subi 253#32 (expo (field u))) 23#32)

/-- The code of lane `k` of a group. -/
def code (u : Fin 128 → F .bf16) (k : Fin 128) : F .fp8e4m3 :=
  FloatOps.truncf .fp8e4m3 (by decide) (FloatOps.minimumf (Scalar.ofBits .f32 0x43E00000#32)
    (FloatOps.maximumf (Scalar.ofBits .f32 0xC3E00000#32) (FloatOps.mulf (FloatOps.extf .f32 (by decide) (u k)) (inverse u))))

/-- The value the code of lane `k` stands for. -/
def back (u : Fin 128 → F .bf16) (k : Fin 128) : F .bf16 :=
  FloatOps.truncf .bf16 (by decide) (FloatOps.mulf (FloatOps.extf .f32 (by decide) (code u k)) (scale u))

/-- The exponent counted from 127, as a plain program counts it. -/
def shifted (f : BitVec 32) : BitVec 32 := Scalar.select (IntOp.cmpi .eq f 0#32) 0#32 (IntOp.subi f 126#32)

theorem add_shifted (f : BitVec 32) : IntOp.addi 127#32 (shifted f) = IntOp.addi (expo f) 1#32 := by
  unfold shifted expo Scalar.select IntOp.addi IntOp.subi
  split
  · rfl
  · apply BitVec.eq_of_toNat_eq
    simp only [BitVec.toNat_add, BitVec.toNat_sub, BitVec.toNat_ofNat]
    omega

theorem sub_shifted (f : BitVec 32) : IntOp.subi 127#32 (shifted f) = IntOp.subi 253#32 (expo f) := by
  unfold shifted expo Scalar.select IntOp.subi
  split
  · rfl
  · apply BitVec.eq_of_toNat_eq
    simp only [BitVec.toNat_sub, BitVec.toNat_ofNat]
    omega

/-- Group `g` of token `r`: 128 consecutive activations. -/
def tokenGroup (A : Vec F ⟨3, ![1, 384, 16384]⟩ .bf16) (r : Fin 384) (g : Fin 128) : Fin 128 → F .bf16 :=
  fun k => A (ix3 (0 : Fin 1) r ⟨128 * g.val + k.val, by omega⟩)

/-- All the codes of the activations. -/
def codes (A : Vec F ⟨3, ![1, 384, 16384]⟩ .bf16) : Vec F ⟨2, ![384, 16384]⟩ .fp8e4m3 := fun i =>
  code (tokenGroup A (i 0) ⟨(i 1).val / 128, by have h : (i 1).val < 16384 := (i 1).isLt; omega⟩) ⟨(i 1).val % 128, by omega⟩

/-- All the scales. -/
def scales (A : Vec F ⟨3, ![1, 384, 16384]⟩ .bf16) : Vec F ⟨2, ![384, 128]⟩ .f32 := fun i => scale (tokenGroup A (i 0) (i 1))

/-- All the values the codes stand for. -/
def backs (A : Vec F ⟨3, ![1, 384, 16384]⟩ .bf16) : Vec F ⟨2, ![384, 16384]⟩ .bf16 := fun i =>
  back (tokenGroup A (i 0) ⟨(i 1).val / 128, by have h : (i 1).val < 16384 := (i 1).isLt; omega⟩) ⟨(i 1).val % 128, by omega⟩

end Cert.Rows
end
-- ==== Proof.Quantise.Groups.lean ====
/- What the quantiser stores at one grid point, as one family over the 128 groups of a row of blocks. -/
module

public import proofs.«01_k».proof.Proof.Gen.Quantise.Frame
public import proofs.«01_k».proof.Proof.Rows
public import Idealize.ShloMosaic.Lib.ValueIdx
public import Idealize.ShloMosaic.Lib.Pipeline.Value
public import Idealize.ShloMosaic.Lib.Pipeline.ValueKit.Tiles
public import Idealize.ShloMosaic.Lib.UnfoldOut

@[expose] public section

set_option synthInstance.maxSize 4096

noncomputable section

namespace Cert.Quantise.Hand

open Cert.Quantise Cert.Quantise.Gen
open Idealize.ShloMosaic Idealize.ShloMosaic.TcCoe Idealize.ShloMosaic.ValueIdx

variable {F : FTy → Type} [BitOps F]

theorem group_inb (g : Fin 128) : ∀ a, (![0, 128 * g.val] : Fin 2 → Nat) a + S32x128.size a ≤ S32x16384.size a := by
  intro a
  match a with
  | 0 => exact (by decide : 0 + 32 ≤ 32)
  | 1 => show 128 * g.val + 128 ≤ 16384; omega

/-- The 128 columns of group `g`. -/
abbrev group (g : Fin 128) : Rect S32x16384 := Rect.unit (s := S32x16384) ![0, 128 * g.val] S32x128.size (group_inb g)

/-- The stores of the codes, the last group first. -/
theorem codes_eq (x0 : Vec F S32x16384 .bf16) :
    out0_1 x0 = View.canon (List.ofFn fun k : Fin 128 => (⟨group k.rev, k0_pay8 (View.ld x0 (group k.rev))⟩ : View.Piece (Elt F) S32x16384 .fp8e4m3)) := by
  rfl

/-- The stores of the dequantised values, the last group first. -/
theorem back_eq (x0 : Vec F S32x16384 .bf16) :
    out0_3 x0 = View.canon (List.ofFn fun k : Fin 128 => (⟨group k.rev, k0_pay9 (View.ld x0 (group k.rev))⟩ : View.Piece (Elt F) S32x16384 .bf16)) := by
  rfl

/-- The block of scales when the first `n` groups have put theirs in its lanes. -/
def scalesTo (x0 : Vec F S32x16384 .bf16) : (n : Nat) → n ≤ 128 → Vec F S32x128 .f32
  | 0, _ => k0_pay4
  | n + 1, h => select (cmpi .eq (k0_pay884 x0) (broadcast S32x128 (BitVec.ofNat 32 n)))
      (broadcastTo S32x128 (shapeCast S32x1 (k0_pay7 (View.ld x0 (group ⟨n, h⟩))) shapeCasts_S32x1_S32x1) broadcasts_S32x1_S32x128)
      (scalesTo x0 n (Nat.le_of_succ_le h))

theorem scales_eq (x0 : Vec F S32x16384 .bf16) :
    out0_2 x0 = View.canon [⟨r0_128, scalesTo x0 128 (Nat.le_refl _)⟩] := by
  rfl

/-! ## One group's operations at a row and a lane -/

section Group

variable (v : Vec F S32x128 .bf16) (r : Fin 32) (k : Fin 128)

theorem expo_apply : k0_pay6 v (ix2 r (0 : Fin 1)) = Rows.expo (Rows.field fun k => v (ix2 r k)) :=
  congrArg Rows.expo (Rows.field_column v shapeCasts_S32x128_S32x128 bitsLt_bf16_f32 reduces_S32x128_S32 (.inl rfl) rfl shapeCasts_S32_S32x1 r)

theorem scale_apply : k0_pay7 v (ix2 r (0 : Fin 1)) = Rows.scale fun k => v (ix2 r k) :=
  congrArg (fun e => (FloatOps.ofBits .f32 (IntOp.shli .vector (IntOp.addi e 1#32) 23#32) : F .f32)) (expo_apply v r)

theorem wide_apply : k0_pay5 v (ix2 r k) = FloatOps.extf .f32 (by decide) (v (ix2 r k)) := by
  unfold k0_pay5
  rw [shapeCast_self]
  rfl

theorem code_apply : k0_pay8 v (ix2 r k) = Rows.code (fun k => v (ix2 r k)) k := by
  show FloatOps.truncf .fp8e4m3 bitsLt_fp8e4m3_f32 (FloatOps.minimumf (Scalar.ofBits .f32 0x43E00000#32)
    (FloatOps.maximumf (Scalar.ofBits .f32 0xC3E00000#32) (FloatOps.mulf (k0_pay5 v (ix2 r k))
      (broadcastTo S32x128 (bitcastToFloat .f32 (shli (subi (broadcast S32x1 253#32) (k0_pay6 v)) (broadcast S32x1 23#32)) : FVec F S32x1 .f32) broadcasts_S32x1_S32x128 (ix2 r k))))) = _
  rw [Rows.broadcastTo_column, wide_apply]
  unfold Rows.code Rows.inverse
  rw [← expo_apply]
  rfl

theorem back_apply : k0_pay9 v (ix2 r k) = Rows.back (fun k => v (ix2 r k)) k := by
  show FloatOps.truncf .bf16 bitsLt_bf16_f32 (FloatOps.mulf (FloatOps.extf .f32 bitsLt_fp8e4m3_f32 (k0_pay8 v (ix2 r k)))
    (broadcastTo S32x128 (k0_pay7 v) broadcasts_S32x1_S32x128 (ix2 r k))) = _
  rw [Rows.broadcastTo_column, code_apply, scale_apply]
  rfl

end Group

/-! ## The three blocks at a row and a column -/

/-- The 128 values of group `g` in row `p` of a block. -/
def groupAt (x0 : Vec F S32x16384 .bf16) (p : Fin 32) (g : Fin 128) : Fin 128 → F .bf16 := fun k => x0 (ix2 p ⟨128 * g.val + k.val, by omega⟩)

theorem ld_group (x0 : Vec F S32x16384 .bf16) (p : Fin 32) (g : Fin 128) :
    (fun k => View.ld x0 (group g) (ix2 p k)) = groupAt x0 p g :=
  funext fun k => View.ld_unit_apply_of x0 _ _ _ _ _ fun a => by
    match a with
    | 0 => show p.val = 0 + p.val; omega
    | 1 => rfl

/-- Stores of all the groups, read back at a column: the column's group, at the column's lane. -/
theorem canon_groups {e : EltTy} (P : Fin 128 → Vec F S32x128 e) (p : Fin 32) (q : Fin 16384) :
    View.canon (List.ofFn fun k : Fin 128 => (⟨group k.rev, P k.rev⟩ : View.Piece (Elt F) S32x16384 e)) (ix2 p q)
      = P ⟨q.val / 128, by omega⟩ (ix2 p ⟨q.val % 128, by omega⟩) := by
  have hq := q.isLt
  refine View.canon_ofFn_unit_eq_of_forall (S := S32x16384) (fun k : Fin 128 => ![0, 128 * k.rev.val]) S32x128.size (fun k => group_inb k.rev) (fun k => P k.rev) _ _ ?_ ?_
  · refine ⟨(⟨q.val / 128, by omega⟩ : Fin 128).rev, fun a => ?_⟩
    rw [Fin.rev_rev]
    match a with
    | 0 => show 0 ≤ p.val ∧ p.val < 0 + 32; omega
    | 1 => show 128 * (q.val / 128) ≤ q.val ∧ q.val < 128 * (q.val / 128) + 128; omega
  · intro k x h
    have h0 : p.val = 0 + (x 0).val := h 0
    have h1 : q.val = 128 * k.rev.val + (x 1).val := h 1
    have hx : (x 1).val < 128 := (x 1).isLt
    have ek : k.rev = ⟨q.val / 128, by omega⟩ := Fin.ext (by show k.rev.val = q.val / 128; omega)
    have ex : x = ix2 p ⟨q.val % 128, by omega⟩ := funext fun a => Fin.ext (by
      match a with
      | 0 => show (x 0).val = p.val; omega
      | 1 => show (x 1).val = q.val % 128; omega)
    exact congrArg₂ P ek ex

theorem codes_apply (x0 : Vec F S32x16384 .bf16) (p : Fin 32) (q : Fin 16384) :
    out0_1 x0 (ix2 p q) = Rows.code (groupAt x0 p ⟨q.val / 128, by omega⟩) ⟨q.val % 128, by omega⟩ := by
  have h := canon_groups (F := F) (e := .fp8e4m3) (fun g => k0_pay8 (View.ld x0 (group g))) p q
  rw [codes_eq, h]
  rw [code_apply, ld_group]

theorem backs_apply (x0 : Vec F S32x16384 .bf16) (p : Fin 32) (q : Fin 16384) :
    out0_3 x0 (ix2 p q) = Rows.back (groupAt x0 p ⟨q.val / 128, by omega⟩) ⟨q.val % 128, by omega⟩ := by
  have h := canon_groups (F := F) (e := .bf16) (fun g => k0_pay9 (View.ld x0 (group g))) p q
  rw [back_eq, h]
  rw [back_apply, ld_group]

/-- Lane `g` of the block of scales holds group `g`'s scale once that group has put it there. -/
theorem scalesTo_apply (x0 : Vec F S32x16384 .bf16) (p : Fin 32) (g : Fin 128) : ∀ (n : Nat) (h : n ≤ 128), g.val < n →
    scalesTo x0 n h (ix2 p g) = Rows.scale (groupAt x0 p g)
  | 0, _, hg => absurd hg (Nat.not_lt_zero _)
  | n + 1, h, hg => by
    show Scalar.select (IntOp.cmpi .eq (k0_pay884 x0 (ix2 p g)) (BitVec.ofNat 32 n)) (broadcastTo S32x128 _ broadcasts_S32x1_S32x128 (ix2 p g)) (scalesTo x0 n _ (ix2 p g)) = _
    rw [Rows.broadcastTo_column, shapeCast_self, scale_apply, ld_group]
    have el : k0_pay884 x0 (ix2 p g) = BitVec.ofNat 32 g.val := by
      unfold k0_pay884
      exact iota_single_apply _ _ _ _ _ _
    rw [el]
    by_cases e : g.val = n
    · subst e
      exact (if_pos (by simp [IntOp.cmpi])).trans rfl
    · have ne : (BitVec.ofNat 32 g.val == BitVec.ofNat 32 n) = false := by
        have := g.isLt
        simp only [beq_eq_false_iff_ne, ne_eq, ← BitVec.toNat_inj, BitVec.toNat_ofNat]
        omega
      refine (if_neg (by simp [IntOp.cmpi, ne])).trans ?_
      exact scalesTo_apply x0 p g n _ (by omega)

theorem scales_apply (x0 : Vec F S32x16384 .bf16) (p : Fin 32) (g : Fin 128) : out0_2 x0 (ix2 p g) = Rows.scale (groupAt x0 p g) := by
  have h0 : (![0, 0] : Fin 2 → ℕ) = fun _ => 0 := funext fun a => by match a with | 0 => rfl | 1 => rfl
  rw [scales_eq, View.canon_unit_zero h0]
  exact scalesTo_apply x0 p g 128 _ g.isLt

end Cert.Quantise.Hand
end
-- ==== Proof.Quantise.Arrays.lean ====
/- What the quantiser leaves in its three result arrays: the codes, the scales and the dequantised values of every group. -/
module

public import proofs.«01_k».proof.Proof.Quantise.Groups
public import proofs.«01_k».proof.Proof.Gen.Quantise.Value
public import Idealize.ShloMosaic.Lib.Pipeline.ValueKit.Geometry

@[expose] public section

set_option synthInstance.maxSize 4096
set_option maxRecDepth 16384

noncomputable section

namespace Cert.Quantise.Hand

open Cert.Quantise Cert.Quantise.Gen
open Idealize.ShloMosaic Idealize.ShloMosaic.TcCoe Idealize.ShloMosaic.Tactic Idealize.ShloMosaic.ValueIdx
open Idealize.ShloMosaic.Pipeline (Dat Cfg Window)

variable {F : FTy → Type} [BitOps F]
variable (m : (ℓ : Loc nD τ sig) → Buf (Elt F) ℓ)

/-- The activations. -/
abbrev argX (c : Dev nD) : Vec F S1x384x16384 .bf16 := m ((c : Thread nD τ).loc main_arg0)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel

/-- The activations as the region takes them. -/
theorem entry_x (c : Dev nD) : V m c main_v0 = shapeCast S384x16384 (argX m c) Facts₀.shapeCasts_S1x384x16384_S384x16384 := by
  entry_read
  rfl

/-- Row `p` of the block at point `t` is row `32 t + p` of the whole. -/
def token (t : Fin cfg0.N) (p : Fin 32) : Fin 384 := ⟨t.val * 32 + p.val, by have : t.val < 12 := t.isLt; omega⟩

theorem block_apply (c : Dev nD) (t : Fin cfg0.N) (p : Fin 32) (q : Fin 16384) :
    iblk m c 0 t (ix2 p q) = argX m c (ix3 (0 : Fin 1) (token t p) q) := by
  have e : iblk m c 0 t (ix2 p q) = V m c main_v0 (ix2 (token t p) q) := by
    unfold iblk
    show V m c main_v0 _ = _
    congr 1
    funext a
    apply Fin.ext
    match a with
    | 0 => blk_simp [index_0]; rfl
    | 1 => blk_simp [index_0]; rfl
  rw [e, entry_x]
  exact shapeCast_apply _ _ _ _ (by rw [Shape.rowMajor_val_three, Shape.rowMajor_val_two]; simp)

theorem group_apply (c : Dev nD) (t : Fin cfg0.N) (p : Fin 32) (g : Fin 128) :
    groupAt (iblk m c 0 t) p g = Rows.tokenGroup (argX m c) (token t p) g :=
  funext fun k => block_apply m c t p _

/-- A row of the 384 is a row of the block at its point. -/
theorem eq_token (r : Fin 384) : ∃ (t : Fin cfg0.N) (p : Fin 32), r = token t p :=
  ⟨⟨r.val / 32, by show r.val / 32 < 12; omega⟩, ⟨r.val % 32, by omega⟩, Fin.ext (by show r.val = r.val / 32 * 32 + r.val % 32; omega)⟩

theorem array_1 (c : Dev nD) : (dats m 0 c).arrAt 1 cfg0.N = Rows.codes (argX m c) := by
  funext i
  obtain ⟨r, q, rfl⟩ : ∃ (r : Fin 384) (q : Fin 16384), i = ix2 r q := ⟨i 0, i 1, eq_ix2 i⟩
  obtain ⟨t, p, rfl⟩ := eq_token r
  have he : ((cfg0.win 1).blk t).view.emb (ix2 p q) = ix2 (token t p) q := by
    funext a
    apply Fin.ext
    match a with
    | 0 => blk_simp [index_1]; rfl
    | 1 => blk_simp [index_1]; rfl
  have hf := (dats m 0 c).arrAt_emb_eq_flushed 1 Value.disjoint1 t (flush0_1 t) (ix2 p q)
  rw [he, Value.flushed1] at hf
  have hx : (cfg0.win 1).xinj (cfg0.grid.coords t) (ix2 p q) = ix2 p q := by
    funext a
    match a with
    | 0 => rfl
    | 1 => rfl
  unfold Pipeline.Window.cut at hf
  rw [hx] at hf
  refine hf.trans ((codes_apply _ p q).trans ?_)
  rw [group_apply]
  rfl

theorem array_2 (c : Dev nD) : (dats m 0 c).arrAt 2 cfg0.N = Rows.scales (argX m c) := by
  funext i
  obtain ⟨r, g, rfl⟩ : ∃ (r : Fin 384) (g : Fin 128), i = ix2 r g := ⟨i 0, i 1, eq_ix2 i⟩
  obtain ⟨t, p, rfl⟩ := eq_token r
  have he : ((cfg0.win 2).blk t).view.emb (ix2 p g) = ix2 (token t p) g := by
    funext a
    apply Fin.ext
    match a with
    | 0 => blk_simp [index_2]; rfl
    | 1 => blk_simp [index_2]; rfl
  have hf := (dats m 0 c).arrAt_emb_eq_flushed 2 Value.disjoint2 t (flush0_2 t) (ix2 p g)
  rw [he, Value.flushed2] at hf
  have hx : (cfg0.win 2).xinj (cfg0.grid.coords t) (ix2 p g) = ix2 p g := by
    funext a
    match a with
    | 0 => rfl
    | 1 => rfl
  unfold Pipeline.Window.cut at hf
  rw [hx] at hf
  refine hf.trans ((scales_apply _ p g).trans ?_)
  rw [group_apply]
  rfl

theorem array_3 (c : Dev nD) : (dats m 0 c).arrAt 3 cfg0.N = Rows.backs (argX m c) := by
  funext i
  obtain ⟨r, q, rfl⟩ : ∃ (r : Fin 384) (q : Fin 16384), i = ix2 r q := ⟨i 0, i 1, eq_ix2 i⟩
  obtain ⟨t, p, rfl⟩ := eq_token r
  have he : ((cfg0.win 3).blk t).view.emb (ix2 p q) = ix2 (token t p) q := by
    funext a
    apply Fin.ext
    match a with
    | 0 => blk_simp [index_3]; rfl
    | 1 => blk_simp [index_3]; rfl
  have hf := (dats m 0 c).arrAt_emb_eq_flushed 3 Value.disjoint3 t (flush0_3 t) (ix2 p q)
  rw [he, Value.flushed3] at hf
  have hx : (cfg0.win 3).xinj (cfg0.grid.coords t) (ix2 p q) = ix2 p q := by
    funext a
    match a with
    | 0 => rfl
    | 1 => rfl
  unfold Pipeline.Window.cut at hf
  rw [hx] at hf
  refine hf.trans ((backs_apply _ p q).trans ?_)
  rw [group_apply]
  rfl

end Cert.Quantise.Hand
end
-- ==== Proof.QuantiseRef.Arrays.lean ====
/- What the reference quantiser leaves in its three results: the same codes, scales and dequantised values, group by group. -/
module

public import proofs.«01_k».proof.Proof.Rows
public import proofs.«01_k».proof.Proof.Gen.QuantiseRef.Read
public import Idealize.ShloMosaic.Lib.Pipeline.ValueKit.Geometry

@[expose] public section

set_option synthInstance.maxSize 4096
set_option maxRecDepth 16384

noncomputable section

namespace Cert.QuantiseRef.Hand

open Cert.QuantiseRef Cert.QuantiseRef.Gen Cert.QuantiseRef.Read
open Idealize.ShloMosaic Idealize.ShloMosaic.TcCoe Idealize.ShloMosaic.Tactic Idealize.ShloMosaic.ValueIdx
open Idealize.ShloMosaic.Pipeline (Dat Cfg Window)

variable {F : FTy → Type} [BitOps F]

/-! ## The body's operations at a row and a lane -/

section Group

variable (v : Vec F S49152x128 .bf16) (r : Fin 49152) (k : Fin 128)

theorem shifted_apply : k0_pay2 v (ix2 r (0 : Fin 1)) = Rows.shifted (Rows.field fun k => v (ix2 r k)) :=
  congrArg Rows.shifted (Rows.field_column v shapeCasts_S49152x128_S49152x128 bitsLt_bf16_f32 reduces_S49152x128_S49152 (.inl rfl) rfl shapeCasts_S49152_S49152x1 r)

theorem scale_apply : k0_pay3 v (ix2 r (0 : Fin 1)) = Rows.scale fun k => v (ix2 r k) := by
  refine (congrArg (fun e => (FloatOps.ofBits .f32 (IntOp.shli .vector (IntOp.addi 127#32 e) 23#32) : F .f32)) (shifted_apply v r)).trans ?_
  rw [Rows.add_shifted]
  rfl

theorem wide_apply : k0_pay1 v (ix2 r k) = FloatOps.extf .f32 (by decide) (v (ix2 r k)) := by
  unfold k0_pay1
  rw [shapeCast_self]
  rfl

theorem code_apply : k0_pay4 v (ix2 r k) = Rows.code (fun k => v (ix2 r k)) k := by
  show FloatOps.truncf .fp8e4m3 bitsLt_fp8e4m3_f32 (FloatOps.minimumf (Scalar.ofBits .f32 0x43E00000#32)
    (FloatOps.maximumf (Scalar.ofBits .f32 0xC3E00000#32) (FloatOps.mulf (k0_pay1 v (ix2 r k))
      (broadcastTo S49152x128 (bitcastToFloat .f32 (shli (subi (broadcast S49152x1 127#32) (k0_pay2 v)) (broadcast S49152x1 23#32)) : FVec F S49152x1 .f32) broadcasts_S49152x1_S49152x128 (ix2 r k))))) = _
  rw [Rows.broadcastTo_column, wide_apply]
  unfold Rows.code Rows.inverse
  rw [← Rows.sub_shifted, ← shifted_apply]
  rfl

theorem back_apply : k0_pay5 v (ix2 r k) = Rows.back (fun k => v (ix2 r k)) k := by
  show FloatOps.truncf .bf16 bitsLt_bf16_f32 (FloatOps.mulf (FloatOps.extf .f32 bitsLt_fp8e4m3_f32 (k0_pay4 v (ix2 r k)))
    (broadcastTo S49152x128 (k0_pay3 v) broadcasts_S49152x1_S49152x128 (ix2 r k))) = _
  rw [Rows.broadcastTo_column, code_apply, scale_apply]
  rfl

end Group

/-! ## The region's one point -/

variable (m : (ℓ : Loc nD τ sig) → Buf (Elt F) ℓ)

/-- The activations. -/
abbrev argX (c : Dev nD) : Vec F S1x384x16384 .bf16 := m ((c : Thread nD τ).loc main_arg0)

def point : Fin cfg0.N := ⟨0, by decide⟩

theorem only (t t' : Fin cfg0.N) (h : t ≠ t') : False := h (Fin.ext (by
  have : t.val < 1 := t.isLt; have : t'.val < 1 := t'.isLt; omega))

theorem index_0 : win0_0.index point = ![0, 0] := by decide +kernel
theorem index_1 : win0_1.index point = ![0, 0] := by decide +kernel
theorem index_2 : win0_2.index point = ![0, 0] := by decide +kernel
theorem index_3 : win0_3.index point = ![0, 0] := by decide +kernel

/-- The activations as the region takes them, one group to a row. -/
theorem entry_x (c : Dev nD) : V m c main_v0 = shapeCast S49152x128 (argX m c) Facts₀.shapeCasts_S1x384x16384_S49152x128 := by
  entry_read
  rfl

/-- Group `g` of token `r` is row `128 r + g`. -/
def rowOf (r : Fin 384) (g : Fin 128) : Fin 49152 := ⟨r.val * 128 + g.val, by omega⟩

theorem block_whole (c : Dev nD) : iblk m c 0 point = V m c main_v0 := by
  funext y
  unfold iblk
  show V m c main_v0 _ = _
  congr 1
  funext a
  apply Fin.ext
  match a with
  | 0 => blk_simp [index_0]
  | 1 => blk_simp [index_0]

theorem group_apply (c : Dev nD) (r : Fin 384) (g : Fin 128) :
    (fun k => (iblk m c 0 point : Vec F S49152x128 .bf16) (ix2 (rowOf r g) k)) = Rows.tokenGroup (argX m c) r g := by
  funext k
  rw [block_whole, entry_x]
  refine shapeCast_apply _ _ _ _ ?_
  rw [Shape.rowMajor_val_three, Shape.rowMajor_val_two]
  show (0 * 384 + r.val) * 16384 + (128 * g.val + k.val) = (r.val * 128 + g.val) * 128 + k.val
  omega

theorem origin : (![0, 0] : Fin 2 → ℕ) = fun _ => 0 := funext fun a => by match a with | 0 => rfl | 1 => rfl

theorem stored_1 (c : Dev nD) : (dats m 0 c).after 1 point = k0_pay4 (iblk m c 0 point) := by
  rw [after0_1]; unfold out0_1; rw [View.canon_unit_zero origin, View.ld_unit_zero origin]
theorem stored_2 (c : Dev nD) : (dats m 0 c).after 2 point = k0_pay3 (iblk m c 0 point) := by
  rw [after0_2]; unfold out0_2; rw [View.canon_unit_zero origin, View.ld_unit_zero origin]
theorem stored_3 (c : Dev nD) : (dats m 0 c).after 3 point = k0_pay5 (iblk m c 0 point) := by
  rw [after0_3]; unfold out0_3; rw [View.canon_unit_zero origin, View.ld_unit_zero origin]

theorem region_1 (c : Dev nD) (j : S49152x128.Idx) : Value.reg_main_v1_0 m c j = k0_pay4 (iblk m c 0 point) j := by
  have hj : ((cfg0.win 1).blk point).view.emb j = j := by
    funext a
    apply Fin.ext
    match a with
    | 0 => blk_simp [index_1]
    | 1 => blk_simp [index_1]
  have hf := (dats m 0 c).arrAt_emb_eq_flushed 1 (fun t t' h h' hne => (only t t' hne).elim) point (flush0_1 point) j
  rw [hj] at hf
  have hx : (cfg0.win 1).xinj (cfg0.grid.coords point) j = j := by
    funext a
    match a with
    | 0 => rfl
    | 1 => rfl
  have hs := congrFun (stored_1 m c) ((cfg0.win 1).xinj (cfg0.grid.coords point) j)
  rw [hx] at hs
  unfold Dat.flushed Pipeline.Window.cut at hf
  rw [hx] at hf
  exact Eq.trans hf hs

theorem region_2 (c : Dev nD) (j : S49152x1.Idx) : Value.reg_main_v1_1 m c j = k0_pay3 (iblk m c 0 point) j := by
  have hj : ((cfg0.win 2).blk point).view.emb j = j := by
    funext a
    apply Fin.ext
    match a with
    | 0 => blk_simp [index_2]
    | 1 => blk_simp [index_2]
  have hf := (dats m 0 c).arrAt_emb_eq_flushed 2 (fun t t' h h' hne => (only t t' hne).elim) point (flush0_2 point) j
  rw [hj] at hf
  have hx : (cfg0.win 2).xinj (cfg0.grid.coords point) j = j := by
    funext a
    match a with
    | 0 => rfl
    | 1 => rfl
  have hs := congrFun (stored_2 m c) ((cfg0.win 2).xinj (cfg0.grid.coords point) j)
  rw [hx] at hs
  unfold Dat.flushed Pipeline.Window.cut at hf
  rw [hx] at hf
  exact Eq.trans hf hs

theorem region_3 (c : Dev nD) (j : S49152x128.Idx) : Value.reg_main_v1_2 m c j = k0_pay5 (iblk m c 0 point) j := by
  have hj : ((cfg0.win 3).blk point).view.emb j = j := by
    funext a
    apply Fin.ext
    match a with
    | 0 => blk_simp [index_3]
    | 1 => blk_simp [index_3]
  have hf := (dats m 0 c).arrAt_emb_eq_flushed 3 (fun t t' h h' hne => (only t t' hne).elim) point (flush0_3 point) j
  rw [hj] at hf
  have hx : (cfg0.win 3).xinj (cfg0.grid.coords point) j = j := by
    funext a
    match a with
    | 0 => rfl
    | 1 => rfl
  have hs := congrFun (stored_3 m c) ((cfg0.win 3).xinj (cfg0.grid.coords point) j)
  rw [hx] at hs
  unfold Dat.flushed Pipeline.Window.cut at hf
  rw [hx] at hf
  exact Eq.trans hf hs

/-! ## The results -/

theorem idx_wide (r : Fin 384) (q : Fin 16384) :
    idx_main_v2 (ix2 r q) = ix2 (rowOf r ⟨q.val / 128, by omega⟩) ⟨q.val % 128, by omega⟩ := by
  have hr := r.isLt
  have hq := q.isLt
  funext a
  apply Fin.ext
  match a with
  | 0 => show (r.val * 16384 + q.val) / 128 = r.val * 128 + q.val / 128; omega
  | 1 => show (r.val * 16384 + q.val) % 128 = q.val % 128; omega

theorem result_1 (c : Dev nD) : shapeCast _ (Value.reg_main_v1_0 m c) shapeCasts_S49152x128_S384x16384 = Rows.codes (argX m c) := by
  funext i
  obtain ⟨r, q, rfl⟩ : ∃ (r : Fin 384) (q : Fin 16384), i = ix2 r q := ⟨i 0, i 1, eq_ix2 i⟩
  refine (val_main_v2_apply (F := F) (Value.reg_main_v1_0 m c) (ix2 r q)).trans ?_
  rw [idx_wide, region_1, code_apply, group_apply]
  rfl

theorem result_2 (c : Dev nD) : shapeCast _ (Value.reg_main_v1_1 m c) shapeCasts_S49152x1_S384x128 = Rows.scales (argX m c) := by
  funext i
  obtain ⟨r, g, rfl⟩ : ∃ (r : Fin 384) (g : Fin 128), i = ix2 r g := ⟨i 0, i 1, eq_ix2 i⟩
  refine (val_main_v3_apply (F := F) (Value.reg_main_v1_1 m c) (ix2 r g)).trans ?_
  have e : idx_main_v3 (ix2 r g) = ix2 (rowOf r g) (0 : Fin 1) := by
    funext a
    apply Fin.ext
    match a with
    | 0 => show (r.val * 128 + g.val) / 1 = r.val * 128 + g.val; omega
    | 1 => rfl
  rw [e, region_2, scale_apply, group_apply]
  rfl

theorem result_3 (c : Dev nD) : shapeCast _ (Value.reg_main_v1_2 m c) shapeCasts_S49152x128_S384x16384 = Rows.backs (argX m c) := by
  funext i
  obtain ⟨r, q, rfl⟩ : ∃ (r : Fin 384) (q : Fin 16384), i = ix2 r q := ⟨i 0, i 1, eq_ix2 i⟩
  refine (val_main_v4_apply (F := F) (Value.reg_main_v1_2 m c) (ix2 r q)).trans ?_
  have e : idx_main_v4 (ix2 r q) = _ := idx_wide r q
  rw [e, region_3, back_apply, group_apply]
  rfl

end Cert.QuantiseRef.Hand
end
-- ==== Proof.Bitexact.lean ====
/- The quantiser and its reference leave the same words in all three results. -/
module

public import proofs.«01_k».proof.Defs
public import proofs.«01_k».proof.Proof.Quantise.Arrays
public import proofs.«01_k».proof.Proof.QuantiseRef.Arrays

@[expose] public section

set_option synthInstance.maxSize 4096

noncomputable section

namespace Cert.Bitexact

open Idealize.ShloMosaic Idealize.ShloMosaic.TcCoe Idealize.SL.Sem

theorem bitexact [Cert.Quantise.Facts] [Cert.QuantiseRef.Facts] : Cert.bitexact_Quantise_QuantiseRef := by
  intro m g m' g' _ hagree
  have e : ∀ c, Cert.QuantiseRef.Hand.argX m' c = Cert.Quantise.Hand.argX m c := hagree
  refine ⟨fun c => Rows.codes (Cert.Quantise.Hand.argX m c), fun c => Rows.scales (Cert.Quantise.Hand.argX m c),
    fun c => Rows.backs (Cert.Quantise.Hand.argX m c),
    (θ_run _ _ _).mono (fun r h c => ?_) (Cert.Quantise.Value.run_blocks m g),
    (θ_run _ _ _).mono (fun r h c => ?_) (Cert.QuantiseRef.Value.run m' g')⟩
  · obtain ⟨h1, h2, h3, h0⟩ := h c
    exact ⟨h1.trans (Cert.Quantise.Hand.array_1 m c), h2.trans (Cert.Quantise.Hand.array_2 m c), h3.trans (Cert.Quantise.Hand.array_3 m c), h0⟩
  · obtain ⟨h1, h2, h3, h0⟩ := h c
    exact ⟨h1.trans ((Cert.QuantiseRef.Hand.result_1 m' c).trans (congrArg Rows.codes (e c))),
      h2.trans ((Cert.QuantiseRef.Hand.result_2 m' c).trans (congrArg Rows.scales (e c))),
      h3.trans ((Cert.QuantiseRef.Hand.result_3 m' c).trans (congrArg Rows.backs (e c))), h0⟩

end Cert.Bitexact
end
-- ==== Proof.lean ====
module

public import proofs.«01_k».proof.Defs
public import proofs.«01_k».proof.Proof.Gen.Quantise
public import proofs.«01_k».proof.Proof.Gen.Quantise.Frame
public import proofs.«01_k».proof.Proof.Gen.QuantiseRef
public import proofs.«01_k».proof.Proof.Gen.QuantiseRef.Frame
public import proofs.«01_k».proof.Proof.Gen.Loss
public import proofs.«01_k».proof.Proof.Gen.LossIdeal
public import proofs.«01_k».proof.Proof.Gen.LossRefIdeal
public import proofs.«01_k».proof.Proof.Gen.LossRefIdeal.Frame
public import proofs.«01_k».proof.Proof.Gen.Pre_labels_in_vocab
public import proofs.«01_k».proof.Proof.Gen.LossRefIdeal.Read
public import proofs.«01_k».proof.Proof.Gen.LossRefIdeal.Run
public import proofs.«01_k».proof.Proof.Gen.QuantiseRef.Read
public import proofs.«01_k».proof.Proof.Gen.QuantiseRef.Run
public import proofs.«01_k».proof.Proof.Gen.Quantise.Value
public import proofs.«01_k».proof.Proof.Loss.Frame
public import proofs.«01_k».proof.Proof.LossIdeal.Exact
public import proofs.«01_k».proof.Proof.Algebraic
public import proofs.«01_k».proof.Proof.Bitexact

@[expose] public section

noncomputable section

namespace Cert.Proof

open Idealize.ShloMosaic Idealize.SL.Sem

theorem claim : Cert.Claim := ⟨Cert.Quantise.Gen.facts, Cert.QuantiseRef.Gen.facts, Cert.Loss.Gen.facts, Cert.LossIdeal.Gen.facts, Cert.LossRefIdeal.Gen.facts, Cert.Pre_labels_in_vocab.Gen.facts,
  fun m g _ => Cert.Quantise.Gen.frame m g,
  fun m g _ => Cert.QuantiseRef.Gen.frame m g,
  fun m g _ => Cert.Loss.Hand.frame m g,
  fun m g _ => (θ_run _ _ _).mono (fun r h => ⟨fun c => (h.1 c).2, h.2⟩) (Cert.LossIdeal.Hand.value m g),
  fun m g _ => (θ_run _ _ _).mono (fun r h => ⟨fun c => (h.1 c).2, h.2⟩) (Cert.LossIdeal.Hand.value m g),
  fun m g _ => Cert.LossRefIdeal.Gen.frame m g,
  fun m g _ => Cert.LossRefIdeal.Gen.frame m g,
  Cert.Bitexact.bitexact,
  trivial,
  Cert.Algebraic.algebraic⟩

end Cert.Proof

end
